-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded [hPre_bounded : Cert.Pre_bounded.Facts] (m : (ℓ : Loc Cert.KernelIdeal.nD Cert.KernelIdeal.τ Cert.KernelIdeal.sig) → Buf (Elt Ideal) ℓ) : Prop :=
  ∀ c : Dev Cert.KernelIdeal.nD,
    (Cert.Pre_bounded.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded [hPre_bounded : Cert.Pre_bounded.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_bounded [hKernelIdeal : Cert.KernelIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_bounded [hReferenceIdeal : Cert.ReferenceIdeal.Facts] [hPre_bounded : Cert.Pre_bounded.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_bounded [hKernelIdeal : Cert.KernelIdeal.Facts] [hReferenceIdeal : Cert.ReferenceIdeal.Facts] [hPre_bounded : Cert.Pre_bounded.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98_0) = v0 c
          ∧ r.2.mem ((c.tc : Thread Cert.ReferenceIdeal.nD Cert.ReferenceIdeal.τ).loc Cert.ReferenceIdeal.main_v98_1) = v1 c
          ∧ r.2.mem ((c.tc : Thread Cert.ReferenceIdeal.nD Cert.ReferenceIdeal.τ).loc Cert.ReferenceIdeal.main_v39) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_bounded : Cert.Pre_bounded.Facts),
    quiescent_Kernel (hKernel := hKernel)
    ∧ quiescent_KernelIdeal (hKernelIdeal := hKernelIdeal)
    ∧ quiescent_KernelIdeal_pre_bounded (hKernelIdeal := hKernelIdeal) (hPre_bounded := hPre_bounded)
    ∧ quiescent_ReferenceIdeal (hReferenceIdeal := hReferenceIdeal)
    ∧ quiescent_ReferenceIdeal_pre_bounded (hReferenceIdeal := hReferenceIdeal) (hPre_bounded := hPre_bounded)
    ∧ preserves_Kernel_KernelIdeal
    ∧ algebraic_KernelIdeal_ReferenceIdeal_pre_bounded (hKernelIdeal := hKernelIdeal) (hReferenceIdeal := hReferenceIdeal) (hPre_bounded := hPre_bounded)
-- ==== Pre_bounded.lean ====
abbrev S6x256x7168 : Shape := ⟨3, ![6, 256, 7168]⟩
abbrev S2 : Shape := ⟨1, ![2]⟩
abbrev S2x6x256 : Shape := ⟨3, ![2, 6, 256]⟩
abbrev S7168 : Shape := ⟨1, ![7168]⟩
abbrev S_ : Shape := ⟨0, ![]⟩
abbrev S6x256 : Shape := ⟨2, ![6, 256]⟩
abbrev S6x256x1 : Shape := ⟨3, ![6, 256, 1]⟩
abbrev S1 : Shape := ⟨1, ![1]⟩
abbrev S1x6x256 : Shape := ⟨3, ![1, 6, 256]⟩
abbrev S1x1x7168 : Shape := ⟨3, ![1, 1, 7168]⟩

class Facts : Prop where
  bitsLt_bf16_f32 : FTy.bits .bf16 < FTy.bits .f32
  reducesTo_S6x256x7168_S6x256_d2 : S6x256x7168.ReducesTo [2] S6x256
  h_S_ : 0 < S_.numel
  bcast_S_S6x256 : S_.BroadcastsInDim S6x256 (![] : Fin 0 → Fin S6x256.rank)
  bcast_S6x256_S6x256x1_0_1 : S6x256.BroadcastsInDim S6x256x1 (![0, 1] : Fin 2 → Fin S6x256x1.rank)
  bcast_S6x256x1_S6x256x7168_0_1_2 : S6x256x1.BroadcastsInDim S6x256x7168 (![0, 1, 2] : Fin 3 → Fin S6x256x7168.rank)
  slices_S2_S1_0 : S2.Slices ![0] S1
  shapeCasts_S1_S_ : S1.ShapeCasts S_
  slices_S2x6x256_S1x6x256_0_0_0 : S2x6x256.Slices ![0, 0, 0] S1x6x256
  shapeCasts_S1x6x256_S6x256 : S1x6x256.ShapeCasts S6x256
  slices_S2_S1_1 : S2.Slices ![1] S1
  slices_S2x6x256_S1x6x256_1_0_0 : S2x6x256.Slices ![1, 0, 0] S1x6x256
  bcast_S7168_S1x1x7168_2 : S7168.BroadcastsInDim S1x1x7168 (![2] : Fin 1 → Fin S1x1x7168.rank)
  bcast_S1x1x7168_S6x256x7168_0_1_2 : S1x1x7168.BroadcastsInDim S6x256x7168 (![0, 1, 2] : Fin 3 → Fin S6x256x7168.rank)
  bcast_S_S6x256x7168 : S_.BroadcastsInDim S6x256x7168 (![] : Fin 0 → Fin S6x256x7168.rank)

variable [Facts]

def fn_part3 {F : FTy → Type} [FloatOps F] (main_v64 : FVec F S6x256x7168 .f32) : IVec S6x256x7168 1 :=
  let main_cst_6 : FVec F S_ .f32 := constant S_ .f32 0x7F7FFFFF#32
  let main_v65 : FVec F S6x256x7168 .f32 := broadcastInDim S6x256x7168 ![] bcast_S_S6x256x7168 main_cst_6
  let main_v66 : IVec S6x256x7168 1 := cmpf .ole main_v64 main_v65
  main_v66

def fn_part2 {F : FTy → Type} [FloatOps F] (main_arg4 : FVec F S7168 .f32) (main_arg5 : FVec F S7168 .f32) (main_v0 : FVec F S6x256x7168 .f32) (main_v16 : FVec F S_ .f32) (main_v21 : FVec F S_ .f32) (main_v34 : FVec F S_ .f32) (main_v39 : FVec F S6x256 .f32) (main_v40 : FVec F S6x256 .f32) (main_v41 : FVec F S6x256 .f32) : IVec S6x256x7168 1 :=
  let main_v42 : FVec F S_ .f32 := mulf main_v21 main_v16
  let main_v43 : FVec F S_ .f32 := Host.divf main_v42 main_v34
  let main_v44 : FVec F S6x256 .f32 := broadcastInDim S6x256 ![] bcast_S_S6x256 main_v43
  let main_v45 : FVec F S6x256 .f32 := mulf main_v41 main_v44
  let main_v46 : FVec F S6x256 .f32 := addf main_v40 main_v45
  let main_v47 : FVec F S6x256 .f32 := broadcastInDim S6x256 ![] bcast_S_S6x256 main_v34
  let main_v48 : FVec F S6x256 .f32 := Host.divf main_v46 main_v47
  let main_cst_5 : FVec F S_ .f32 := constant S_ .f32 0x3727C5AC#32
  let main_v49 : FVec F S6x256 .f32 := broadcastInDim S6x256 ![] bcast_S_S6x256 main_cst_5
  let main_v50 : FVec F S6x256 .f32 := addf main_v48 main_v49
  let main_v51 : FVec F S6x256 .f32 := Host.rsqrt main_v50
  let main_v52 : FVec F S6x256x1 .f32 := broadcastInDim S6x256x1 ![0, 1] bcast_S6x256_S6x256x1_0_1 main_v39
  let main_v53 : FVec F S6x256x7168 .f32 := broadcastInDim S6x256x7168 ![0, 1, 2] bcast_S6x256x1_S6x256x7168_0_1_2 main_v52
  let main_v54 : FVec F S6x256x7168 .f32 := subf main_v0 main_v53
  let main_v55 : FVec F S6x256x1 .f32 := broadcastInDim S6x256x1 ![0, 1] bcast_S6x256_S6x256x1_0_1 main_v51
  let main_v56 : FVec F S6x256x7168 .f32 := broadcastInDim S6x256x7168 ![0, 1, 2] bcast_S6x256x1_S6x256x7168_0_1_2 main_v55
  let main_v57 : FVec F S6x256x7168 .f32 := mulf main_v54 main_v56
  let main_v58 : FVec F S1x1x7168 .f32 := broadcastInDim S1x1x7168 ![2] bcast_S7168_S1x1x7168_2 main_arg4
  let main_v59 : FVec F S6x256x7168 .f32 := broadcastInDim S6x256x7168 ![0, 1, 2] bcast_S1x1x7168_S6x256x7168_0_1_2 main_v58
  let main_v60 : FVec F S6x256x7168 .f32 := mulf main_v57 main_v59
  let main_v61 : FVec F S1x1x7168 .f32 := broadcastInDim S1x1x7168 ![2] bcast_S7168_S1x1x7168_2 main_arg5
  let main_v62 : FVec F S6x256x7168 .f32 := broadcastInDim S6x256x7168 ![0, 1, 2] bcast_S1x1x7168_S6x256x7168_0_1_2 main_v61
  let main_v63 : FVec F S6x256x7168 .f32 := addf main_v60 main_v62
  let main_v64 : FVec F S6x256x7168 .f32 := Host.absf main_v63
  fn_part3 (F := F) main_v64

def fn_part1 {F : FTy → Type} [FloatOps F] (main_arg4 : FVec F S7168 .f32) (main_arg5 : FVec F S7168 .f32) (main_v0 : FVec F S6x256x7168 .f32) (main_v3 : FVec F S6x256 .f32) (main_v8 : FVec F S6x256 .f32) (main_v10 : FVec F S_ .f32) (main_v12 : FVec F S6x256 .f32) (main_v14 : FVec F S6x256 .f32) (main_v16 : FVec F S_ .f32) (main_v18 : FVec F S6x256 .f32) (main_v20 : FVec F S6x256 .f32) : IVec S6x256x7168 1 :=
  let main_cst_2 : FVec F S_ .f32 := constant S_ .f32 0x45E00000#32
  let main_v21 : FVec F S_ .f32 := addf main_v10 main_cst_2
  let main_v22 : FVec F S6x256 .f32 := subf main_v3 main_v12
  let main_cst_3 : FVec F S_ .f32 := constant S_ .f32 0x45E00000#32
  let main_v23 : FVec F S_ .f32 := Host.divf main_cst_3 main_v21
  let main_v24 : FVec F S6x256 .f32 := broadcastInDim S6x256 ![] bcast_S_S6x256 main_v23
  let main_v25 : FVec F S6x256 .f32 := mulf main_v22 main_v24
  let main_v26 : FVec F S6x256 .f32 := addf main_v12 main_v25
  let main_v27 : FVec F S6x256 .f32 := addf main_v14 main_v8
  let main_v28 : FVec F S6x256 .f32 := mulf main_v22 main_v22
  let main_cst_4 : FVec F S_ .f32 := constant S_ .f32 0x45E00000#32
  let main_v29 : FVec F S_ .f32 := mulf main_v10 main_cst_4
  let main_v30 : FVec F S_ .f32 := Host.divf main_v29 main_v21
  let main_v31 : FVec F S6x256 .f32 := broadcastInDim S6x256 ![] bcast_S_S6x256 main_v30
  let main_v32 : FVec F S6x256 .f32 := mulf main_v28 main_v31
  let main_v33 : FVec F S6x256 .f32 := addf main_v27 main_v32
  let main_v34 : FVec F S_ .f32 := addf main_v21 main_v16
  let main_v35 : FVec F S6x256 .f32 := subf main_v18 main_v26
  let main_v36 : FVec F S_ .f32 := Host.divf main_v16 main_v34
  let main_v37 : FVec F S6x256 .f32 := broadcastInDim S6x256 ![] bcast_S_S6x256 main_v36
  let main_v38 : FVec F S6x256 .f32 := mulf main_v35 main_v37
  let main_v39 : FVec F S6x256 .f32 := addf main_v26 main_v38
  let main_v40 : FVec F S6x256 .f32 := addf main_v33 main_v20
  let main_v41 : FVec F S6x256 .f32 := mulf main_v35 main_v35
  fn_part2 (F := F) main_arg4 main_arg5 main_v0 main_v16 main_v21 main_v34 main_v39 main_v40 main_v41

def fn {F : FTy → Type} [FloatOps F] (main_arg0 : FVec F S6x256x7168 .bf16) (main_arg1 : FVec F S2 .f32) (main_arg2 : FVec F S2x6x256 .f32) (main_arg3 : FVec F S2x6x256 .f32) (main_arg4 : FVec F S7168 .f32) (main_arg5 : FVec F S7168 .f32) : IVec S6x256x7168 1 :=
  let main_v0 : FVec F S6x256x7168 .f32 := (extf .f32 · bitsLt_bf16_f32) main_arg0
  let main_cst : FVec F S_ .f32 := constant S_ .f32 0x00000000#32
  let main_v1 : FVec F S6x256 .f32 := (fun x v => Host.reduceAdd x v reducesTo_S6x256x7168_S6x256_d2 h_S_) main_v0 main_cst
  let main_cst_0 : FVec F S_ .f32 := constant S_ .f32 0x45E00000#32
  let main_v2 : FVec F S6x256 .f32 := broadcastInDim S6x256 ![] bcast_S_S6x256 main_cst_0
  let main_v3 : FVec F S6x256 .f32 := Host.divf main_v1 main_v2
  let main_v4 : FVec F S6x256x1 .f32 := broadcastInDim S6x256x1 ![0, 1] bcast_S6x256_S6x256x1_0_1 main_v3
  let main_v5 : FVec F S6x256x7168 .f32 := broadcastInDim S6x256x7168 ![0, 1, 2] bcast_S6x256x1_S6x256x7168_0_1_2 main_v4
  let main_v6 : FVec F S6x256x7168 .f32 := subf main_v0 main_v5
  let main_v7 : FVec F S6x256x7168 .f32 := mulf main_v6 main_v6
  let main_cst_1 : FVec F S_ .f32 := constant S_ .f32 0x00000000#32
  let main_v8 : FVec F S6x256 .f32 := (fun x v => Host.reduceAdd x v reducesTo_S6x256x7168_S6x256_d2 h_S_) main_v7 main_cst_1
  let main_v9 : FVec F S1 .f32 := (extractStridedSlice S1 ![0] · slices_S2_S1_0) main_arg1
  let main_v10 : FVec F S_ .f32 := shapeCast S_ main_v9 shapeCasts_S1_S_
  let main_v11 : FVec F S1x6x256 .f32 := (extractStridedSlice S1x6x256 ![0, 0, 0] · slices_S2x6x256_S1x6x256_0_0_0) main_arg2
  let main_v12 : FVec F S6x256 .f32 := shapeCast S6x256 main_v11 shapeCasts_S1x6x256_S6x256
  let main_v13 : FVec F S1x6x256 .f32 := (extractStridedSlice S1x6x256 ![0, 0, 0] · slices_S2x6x256_S1x6x256_0_0_0) main_arg3
  let main_v14 : FVec F S6x256 .f32 := shapeCast S6x256 main_v13 shapeCasts_S1x6x256_S6x256
  let main_v15 : FVec F S1 .f32 := (extractStridedSlice S1 ![1] · slices_S2_S1_1) main_arg1
  let main_v16 : FVec F S_ .f32 := shapeCast S_ main_v15 shapeCasts_S1_S_
  let main_v17 : FVec F S1x6x256 .f32 := (extractStridedSlice S1x6x256 ![1, 0, 0] · slices_S2x6x256_S1x6x256_1_0_0) main_arg2
  let main_v18 : FVec F S6x256 .f32 := shapeCast S6x256 main_v17 shapeCasts_S1x6x256_S6x256
  let main_v19 : FVec F S1x6x256 .f32 := (extractStridedSlice S1x6x256 ![1, 0, 0] · slices_S2x6x256_S1x6x256_1_0_0) main_arg3
  let main_v20 : FVec F S6x256 .f32 := shapeCast S6x256 main_v19 shapeCasts_S1x6x256_S6x256
  fn_part1 (F := F) main_arg4 main_arg5 main_v0 main_v3 main_v8 main_v10 main_v12 main_v14 main_v16 main_v18 main_v20
-- ==== Kernel.lean ====
abbrev S6x256x7168 : Shape := ⟨3, ![6, 256, 7168]⟩
abbrev S2 : Shape := ⟨1, ![2]⟩
abbrev S2x6x256 : Shape := ⟨3, ![2, 6, 256]⟩
abbrev S7168 : Shape := ⟨1, ![7168]⟩
abbrev S1x7168 : Shape := ⟨2, ![1, 7168]⟩
abbrev S6x256x224 : Shape := ⟨3, ![6, 256, 224]⟩
abbrev S6x256 : Shape := ⟨2, ![6, 256]⟩
abbrev S1x256x7168 : Shape := ⟨3, ![1, 256, 7168]⟩
abbrev S1x256x224 : Shape := ⟨3, ![1, 256, 224]⟩
abbrev S256x256 : Shape := ⟨2, ![256, 256]⟩
abbrev S256x128 : Shape := ⟨2, ![256, 128]⟩
abbrev S1x256x256 : Shape := ⟨3, ![1, 256, 256]⟩
abbrev S256 : Shape := ⟨1, ![256]⟩
abbrev S256x1 : Shape := ⟨2, ![256, 1]⟩
abbrev S128x256 : Shape := ⟨2, ![128, 256]⟩
abbrev S1x256 : Shape := ⟨2, ![1, 256]⟩
abbrev S1 : Shape := ⟨1, ![1]⟩
abbrev S1x1x256 : Shape := ⟨3, ![1, 1, 256]⟩
abbrev S1x256x128 : Shape := ⟨3, ![1, 256, 128]⟩
abbrev S1x128 : Shape := ⟨2, ![1, 128]⟩
abbrev S8x32x256 : Shape := ⟨3, ![8, 32, 256]⟩
abbrev S8x256 : Shape := ⟨2, ![8, 256]⟩
abbrev S120x256 : Shape := ⟨2, ![120, 256]⟩
abbrev S256x224 : Shape := ⟨2, ![256, 224]⟩

abbrev nBuf : Space → Nat
  | .hbm => 12
  | .vmem => 13
  | .smem => 1
  | _ => 0

abbrev bufTy : (tb : Table) → Fin (tcTables nBuf tb) → BufTy
  | .hbm, ⟨0, _⟩ => ⟨S6x256x7168, .bf16⟩
  | .hbm, ⟨1, _⟩ => ⟨S2, .f32⟩
  | .hbm, ⟨2, _⟩ => ⟨S2x6x256, .f32⟩
  | .hbm, ⟨3, _⟩ => ⟨S2x6x256, .f32⟩
  | .hbm, ⟨4, _⟩ => ⟨S7168, .f32⟩
  | .hbm, ⟨5, _⟩ => ⟨S7168, .f32⟩
  | .hbm, ⟨6, _⟩ => ⟨S1x7168, .f32⟩
  | .hbm, ⟨7, _⟩ => ⟨S1x7168, .f32⟩
  | .hbm, ⟨8, _⟩ => ⟨S6x256x7168, .fp8e4m3⟩
  | .hbm, ⟨9, _⟩ => ⟨S6x256x224, .i8⟩
  | .hbm, ⟨10, _⟩ => ⟨S6x256, .f32⟩
  | .hbm, ⟨11, _⟩ => ⟨S6x256, .f32⟩
  | .local _ .vmem, ⟨0, _⟩ => ⟨S1x256x7168, .bf16⟩
  | .local _ .vmem, ⟨1, _⟩ => ⟨S1x256x7168, .bf16⟩
  | .local _ .vmem, ⟨2, _⟩ => ⟨S2x6x256, .f32⟩
  | .local _ .vmem, ⟨3, _⟩ => ⟨S2x6x256, .f32⟩
  | .local _ .vmem, ⟨4, _⟩ => ⟨S1x7168, .f32⟩
  | .local _ .vmem, ⟨5, _⟩ => ⟨S1x7168, .f32⟩
  | .local _ .vmem, ⟨6, _⟩ => ⟨S1x256x7168, .fp8e4m3⟩
  | .local _ .vmem, ⟨7, _⟩ => ⟨S1x256x7168, .fp8e4m3⟩
  | .local _ .vmem, ⟨8, _⟩ => ⟨S1x256x224, .i8⟩
  | .local _ .vmem, ⟨9, _⟩ => ⟨S1x256x224, .i8⟩
  | .local _ .vmem, ⟨10, _⟩ => ⟨S6x256, .f32⟩
  | .local _ .vmem, ⟨11, _⟩ => ⟨S6x256, .f32⟩
  | .local _ .vmem, ⟨12, _⟩ => ⟨S256x256, .i32⟩
  | .local _ .smem, ⟨0, _⟩ => ⟨S2, .f32⟩
  | _, _ => ⟨S6x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg6_1 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg9_0 : Ref sig .tc := ⟨.vmem, 11, rfl⟩
abbrev cc0_scratch0 : Ref sig .tc := ⟨.vmem, 12, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12

abbrev nD : Nat := 1
abbrev τ : Topo := Topo.v7x

variable {F : FTy → Type} [FloatOps F]

abbrev grid0 : Pipeline.Grid := ⟨1, ![6], ![false]⟩

@[reducible] def k0_t1_loop : Scf.Loop 32 :=
  let c0_i32 : BitVec 32 := 0#32
  let c28_i32 : BitVec 32 := 28#32
  let v1 : BitVec 32 := Scalar.addi c0_i32 c28_i32
  let c1_i32 : BitVec 32 := 1#32
  ⟨c0_i32, v1, c1_i32⟩
def k0_mult1 (k0_t1 : Fin k0_t1_loop.trips) : BitVec 32 :=
  let c0_i32 : BitVec 32 := 0#32
  let c1_i32 : BitVec 32 := 1#32
  let arg12 : BitVec 32 := Scf.iv c0_i32 c1_i32 k0_t1
  let c256_i32 : BitVec 32 := 256#32
  let v113 : BitVec 32 := Scalar.muli arg12 c256_i32
  v113
def k0_off1 (k0_t1 : Fin k0_t1_loop.trips) : Fin 3 → Nat :=
  let c0_36 : Index := 0#32
  let c0_37 : Index := 0#32
  let c0_i32 : BitVec 32 := 0#32
  let c1_i32 : BitVec 32 := 1#32
  let arg12 : BitVec 32 := Scf.iv c0_i32 c1_i32 k0_t1
  let c256_i32 : BitVec 32 := 256#32
  let v113 : BitVec 32 := Scalar.muli arg12 c256_i32
  let v114 : BitVec 32 := v113
  let v115 : Index := Scalar.indexCast v114
  ![0, 0, v115.toNat]
@[reducible] def k0_t2_loop : Scf.Loop 32 :=
  let c0_i32_4 : BitVec 32 := 0#32
  let c28_i32_5 : BitVec 32 := 28#32
  let v8 : BitVec 32 := Scalar.addi c0_i32_4 c28_i32_5
  let c1_i32_6 : BitVec 32 := 1#32
  ⟨c0_i32_4, v8, c1_i32_6⟩
def k0_mult2 (k0_t2 : Fin k0_t2_loop.trips) : BitVec 32 :=
  let c0_i32_4 : BitVec 32 := 0#32
  let c1_i32_6 : BitVec 32 := 1#32
  let arg12 : BitVec 32 := Scf.iv c0_i32_4 c1_i32_6 k0_t2
  let c256_i32 : BitVec 32 := 256#32
  let v113 : BitVec 32 := Scalar.muli arg12 c256_i32
  v113
def k0_off2 (k0_t2 : Fin k0_t2_loop.trips) : Fin 3 → Nat :=
  let c0_36 : Index := 0#32
  let c0_37 : Index := 0#32
  let c0_i32_4 : BitVec 32 := 0#32
  let c1_i32_6 : BitVec 32 := 1#32
  let arg12 : BitVec 32 := Scf.iv c0_i32_4 c1_i32_6 k0_t2
  let c256_i32 : BitVec 32 := 256#32
  let v113 : BitVec 32 := Scalar.muli arg12 c256_i32
  let v114 : BitVec 32 := v113
  let v115 : Index := Scalar.indexCast v114
  ![0, 0, v115.toNat]
def k0_off3 (i : grid0.Coords) : Fin 3 → Nat :=
  let c0_9 : Index := 0#32
  let arg0 : BitVec 32 := BitVec.ofNat 32 (i 0).val
  let v21 : Index := Scalar.indexCast arg0
  let c0_10 : Index := 0#32
  ![0, v21.toNat, 0]
def k0_off4 (i : grid0.Coords) : Fin 3 → Nat :=
  let c1_13 : Index := 1#32
  let arg0 : BitVec 32 := BitVec.ofNat 32 (i 0).val
  let v28 : Index := Scalar.indexCast arg0
  let c0_14 : Index := 0#32
  ![1, v28.toNat, 0]
def k0_off5 (i : grid0.Coords) : Fin 2 → Nat :=
  let arg0 : BitVec 32 := BitVec.ofNat 32 (i 0).val
  let v63 : Index := Scalar.indexCast arg0
  let c0_19 : Index := 0#32
  ![v63.toNat, 0]
@[reducible] def k0_t3_loop : Scf.Loop 32 :=
  let c0_i32_27 : BitVec 32 := 0#32
  let c28_i32_28 : BitVec 32 := 28#32
  let v103 : BitVec 32 := Scalar.addi c0_i32_27 c28_i32_28
  let c1_i32_29 : BitVec 32 := 1#32
  ⟨c0_i32_27, v103, c1_i32_29⟩
def k0_mult3 (k0_t3 : Fin k0_t3_loop.trips) : BitVec 32 :=
  let c0_i32_27 : BitVec 32 := 0#32
  let c1_i32_29 : BitVec 32 := 1#32
  let arg12 : BitVec 32 := Scf.iv c0_i32_27 c1_i32_29 k0_t3
  let c256_i32 : BitVec 32 := 256#32
  let v113 : BitVec 32 := Scalar.muli arg12 c256_i32
  v113
def k0_mult4 (k0_t3 : Fin k0_t3_loop.trips) : BitVec 32 :=
  let c0_i32_27 : BitVec 32 := 0#32
  let c1_i32_29 : BitVec 32 := 1#32
  let arg12 : BitVec 32 := Scf.iv c0_i32_27 c1_i32_29 k0_t3
  let c256_i32 : BitVec 32 := 256#32
  let v113 : BitVec 32 := Scalar.muli arg12 c256_i32
  let v114 : BitVec 32 := v113
  let c0_i32_36 : BitVec 32 := 0#32
  let v115 : BitVec 32 := Scalar.addi v114 c0_i32_36
  v115
def k0_off6 (k0_t3 : Fin k0_t3_loop.trips) (c0_i32_36 : BitVec 32) : Fin 3 → Nat :=
  let c0_37 : Index := 0#32
  let c0_38 : Index := 0#32
  let c0_i32_27 : BitVec 32 := 0#32
  let c1_i32_29 : BitVec 32 := 1#32
  let arg12 : BitVec 32 := Scf.iv c0_i32_27 c1_i32_29 k0_t3
  let c256_i32 : BitVec 32 := 256#32
  let v113 : BitVec 32 := Scalar.muli arg12 c256_i32
  let v114 : BitVec 32 := v113
  let v115 : BitVec 32 := Scalar.addi v114 c0_i32_36
  let v116 : BitVec 32 := v115
  let v117 : Index := Scalar.indexCast v116
  ![0, 0, v117.toNat]
def k0_off7 (k0_t3 : Fin k0_t3_loop.trips) (c0_i32_36 : BitVec 32) : Fin 2 → Nat :=
  let c0_39 : Index := 0#32
  let c0_i32_27 : BitVec 32 := 0#32
  let c1_i32_29 : BitVec 32 := 1#32
  let arg12 : BitVec 32 := Scf.iv c0_i32_27 c1_i32_29 k0_t3
  let c256_i32 : BitVec 32 := 256#32
  let v113 : BitVec 32 := Scalar.muli arg12 c256_i32
  let v114 : BitVec 32 := v113
  let v115 : BitVec 32 := Scalar.addi v114 c0_i32_36
  let v116 : BitVec 32 := v115
  let v123 : Index := Scalar.indexCast v116
  ![0, v123.toNat]
def k0_mult5 (k0_t3 : Fin k0_t3_loop.trips) : BitVec 32 :=
  let c0_i32_27 : BitVec 32 := 0#32
  let c1_i32_29 : BitVec 32 := 1#32
  let arg12 : BitVec 32 := Scf.iv c0_i32_27 c1_i32_29 k0_t3
  let c256_i32 : BitVec 32 := 256#32
  let v113 : BitVec 32 := Scalar.muli arg12 c256_i32
  let v114 : BitVec 32 := v113
  let c128_i32 : BitVec 32 := 128#32
  let v133 : BitVec 32 := Scalar.addi v114 c128_i32
  v133
def k0_mult6 (k0_t3 : Fin k0_t3_loop.trips) : BitVec 32 :=
  let c0_i32_27 : BitVec 32 := 0#32
  let c1_i32_29 : BitVec 32 := 1#32
  let arg12 : BitVec 32 := Scf.iv c0_i32_27 c1_i32_29 k0_t3
  let c8_i32_60 : BitVec 32 := 8#32
  let v221 : BitVec 32 := Scalar.muli arg12 c8_i32_60
  v221
def k0_off8 (k0_t3 : Fin k0_t3_loop.trips) : Fin 2 → Nat :=
  let c0_i32_27 : BitVec 32 := 0#32
  let c1_i32_29 : BitVec 32 := 1#32
  let arg12 : BitVec 32 := Scf.iv c0_i32_27 c1_i32_29 k0_t3
  let c8_i32_60 : BitVec 32 := 8#32
  let v221 : BitVec 32 := Scalar.muli arg12 c8_i32_60
  let v222 : BitVec 32 := v221
  let v223 : Index := Scalar.indexCast v222
  let c0_61 : Index := 0#32
  ![v223.toNat, 0]
def k0_off9 (k0_t3 : Fin k0_t3_loop.trips) : Fin 3 → Nat :=
  let c0_68 : Index := 0#32
  let c0_69 : Index := 0#32
  let c0_i32_27 : BitVec 32 := 0#32
  let c1_i32_29 : BitVec 32 := 1#32
  let arg12 : BitVec 32 := Scf.iv c0_i32_27 c1_i32_29 k0_t3
  let c256_i32 : BitVec 32 := 256#32
  let v113 : BitVec 32 := Scalar.muli arg12 c256_i32
  let v114 : BitVec 32 := v113
  let v243 : Index := Scalar.indexCast v114
  ![0, 0, v243.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x256x7168 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2x6x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x6x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x7168 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x256x7168 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x224 .i8 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S6x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S6x256x7168 : Shape := ⟨3, ![6, 256, 7168]⟩
abbrev S2 : Shape := ⟨1, ![2]⟩
abbrev S2x6x256 : Shape := ⟨3, ![2, 6, 256]⟩
abbrev S7168 : Shape := ⟨1, ![7168]⟩
abbrev S_ : Shape := ⟨0, ![]⟩
abbrev S6x256 : Shape := ⟨2, ![6, 256]⟩
abbrev S6x256x1 : Shape := ⟨3, ![6, 256, 1]⟩
abbrev S1 : Shape := ⟨1, ![1]⟩
abbrev S1x6x256 : Shape := ⟨3, ![1, 6, 256]⟩
abbrev S1x1x7168 : Shape := ⟨3, ![1, 1, 7168]⟩
abbrev S6x256x224x32 : Shape := ⟨4, ![6, 256, 224, 32]⟩
abbrev S6x256x224 : Shape := ⟨3, ![6, 256, 224]⟩
abbrev S254 : Shape := ⟨1, ![254]⟩
abbrev S6x256x224x1 : Shape := ⟨4, ![6, 256, 224, 1]⟩
abbrev S1x1x1x254 : Shape := ⟨4, ![1, 1, 1, 254]⟩
abbrev S6x256x224x254 : Shape := ⟨4, ![6, 256, 224, 254]⟩

abbrev nBuf : Space → Nat
  | .hbm => 132
  | .vmem => 4
  | .smem => 0
  | _ => 0

abbrev hbmTy0_0 (i : Nat) : BufTy := match i % 128 with
  | 0 => ⟨S6x256x7168, .bf16⟩
  | 1 => ⟨S2, .f32⟩
  | 2 => ⟨S2x6x256, .f32⟩
  | 3 => ⟨S2x6x256, .f32⟩
  | 4 => ⟨S7168, .f32⟩
  | 5 => ⟨S7168, .f32⟩
  | 6 => ⟨S6x256x7168, .f32⟩
  | 7 => ⟨S_, .f32⟩
  | 8 => ⟨S6x256, .f32⟩
  | 9 => ⟨S_, .f32⟩
  | 10 => ⟨S6x256, .f32⟩
  | 11 => ⟨S6x256, .f32⟩
  | 12 => ⟨S6x256x1, .f32⟩
  | 13 => ⟨S6x256x7168, .f32⟩
  | 14 => ⟨S6x256x7168, .f32⟩
  | 15 => ⟨S6x256x7168, .f32⟩
  | 16 => ⟨S_, .f32⟩
  | 17 => ⟨S6x256, .f32⟩
  | 18 => ⟨S1, .f32⟩
  | 19 => ⟨S_, .f32⟩
  | 20 => ⟨S1x6x256, .f32⟩
  | 21 => ⟨S6x256, .f32⟩
  | 22 => ⟨S1x6x256, .f32⟩
  | 23 => ⟨S6x256, .f32⟩
  | 24 => ⟨S1, .f32⟩
  | 25 => ⟨S_, .f32⟩
  | 26 => ⟨S1x6x256, .f32⟩
  | 27 => ⟨S6x256, .f32⟩
  | 28 => ⟨S1x6x256, .f32⟩
  | 29 => ⟨S6x256, .f32⟩
  | 30 => ⟨S_, .f32⟩
  | 31 => ⟨S_, .f32⟩
  | 32 => ⟨S6x256, .f32⟩
  | 33 => ⟨S_, .f32⟩
  | 34 => ⟨S_, .f32⟩
  | 35 => ⟨S6x256, .f32⟩
  | 36 => ⟨S6x256, .f32⟩
  | 37 => ⟨S6x256, .f32⟩
  | 38 => ⟨S6x256, .f32⟩
  | 39 => ⟨S6x256, .f32⟩
  | 40 => ⟨S_, .f32⟩
  | 41 => ⟨S_, .f32⟩
  | 42 => ⟨S_, .f32⟩
  | 43 => ⟨S6x256, .f32⟩
  | 44 => ⟨S6x256, .f32⟩
  | 45 => ⟨S6x256, .f32⟩
  | 46 => ⟨S_, .f32⟩
  | 47 => ⟨S6x256, .f32⟩
  | 48 => ⟨S_, .f32⟩
  | 49 => ⟨S6x256, .f32⟩
  | 50 => ⟨S6x256, .f32⟩
  | 51 => ⟨S6x256, .f32⟩
  | 52 => ⟨S6x256, .f32⟩
  | 53 => ⟨S6x256, .f32⟩
  | 54 => ⟨S_, .f32⟩
  | 55 => ⟨S_, .f32⟩
  | 56 => ⟨S6x256, .f32⟩
  | 57 => ⟨S6x256, .f32⟩
  | 58 => ⟨S6x256, .f32⟩
  | 59 => ⟨S6x256, .f32⟩
  | 60 => ⟨S6x256, .f32⟩
  | 61 => ⟨S_, .f32⟩
  | 62 => ⟨S6x256, .f32⟩
  | 63 => ⟨S6x256, .f32⟩
  | 64 => ⟨S6x256, .f32⟩
  | 65 => ⟨S6x256x1, .f32⟩
  | 66 => ⟨S6x256x7168, .f32⟩
  | 67 => ⟨S6x256x7168, .f32⟩
  | 68 => ⟨S6x256x1, .f32⟩
  | 69 => ⟨S6x256x7168, .f32⟩
  | 70 => ⟨S6x256x7168, .f32⟩
  | 71 => ⟨S1x1x7168, .f32⟩
  | 72 => ⟨S6x256x7168, .f32⟩
  | 73 => ⟨S6x256x7168, .f32⟩
  | 74 => ⟨S1x1x7168, .f32⟩
  | 75 => ⟨S6x256x7168, .f32⟩
  | 76 => ⟨S6x256x7168, .f32⟩
  | 77 => ⟨S6x256x224x32, .f32⟩
  | 78 => ⟨S6x256x224x32, .f32⟩
  | 79 => ⟨S_, .f32⟩
  | 80 => ⟨S6x256x224, .f32⟩
  | 81 => ⟨S_, .f32⟩
  | 82 => ⟨S6x256x224, .f32⟩
  | 83 => ⟨S6x256x224, .f32⟩
  | 84 => ⟨S254, .i32⟩
  | 85 => ⟨S_, .i32⟩
  | 86 => ⟨S254, .i32⟩
  | 87 => ⟨S254, .i32⟩
  | 88 => ⟨S254, .f32⟩
  | 89 => ⟨S_, .f32⟩
  | 90 => ⟨S254, .f32⟩
  | 91 => ⟨S254, .f32⟩
  | 92 => ⟨S6x256x224x1, .f32⟩
  | 93 => ⟨S1x1x1x254, .f32⟩
  | 94 => ⟨S6x256x224x254, .f32⟩
  | 95 => ⟨S6x256x224x254, .f32⟩
  | 96 => ⟨S6x256x224x254, .i1⟩
  | 97 => ⟨S6x256x224x254, .i32⟩
  | 98 => ⟨S_, .i32⟩
  | 99 => ⟨S6x256x224, .i32⟩
  | 100 => ⟨S_, .i32⟩
  | 101 => ⟨S6x256x224, .i32⟩
  | 102 => ⟨S6x256x224, .i32⟩
  | 103 => ⟨S_, .f32⟩
  | 104 => ⟨S6x256x224, .f32⟩
  | 105 => ⟨S6x256x224, .i1⟩
  | 106 => ⟨S_, .i32⟩
  | 107 => ⟨S_, .i32⟩
  | 108 => ⟨S6x256x224, .i32⟩
  | 109 => ⟨S6x256x224, .i32⟩
  | 110 => ⟨S6x256x224, .i32⟩
  | 111 => ⟨S6x256x224, .f32⟩
  | 112 => ⟨S_, .f32⟩
  | 113 => ⟨S6x256x224, .f32⟩
  | 114 => ⟨S6x256x224, .f32⟩
  | 115 => ⟨S6x256x224x1, .f32⟩
  | 116 => ⟨S6x256x224x32, .f32⟩
  | 117 => ⟨S6x256x224x32, .f32⟩
  | 118 => ⟨S_, .f32⟩
  | 119 => ⟨S_, .f32⟩
  | 120 => ⟨S_, .f32⟩
  | 121 => ⟨S6x256x224x32, .f32⟩
  | 122 => ⟨S6x256x224x32, .f32⟩
  | 123 => ⟨S_, .f32⟩
  | 124 => ⟨S6x256x224x32, .f32⟩
  | 125 => ⟨S6x256x224x32, .f32⟩
  | 126 => ⟨S6x256x7168, .f32⟩
  | 127 => ⟨S_, .i32⟩
  | _ => ⟨S6x256x7168, .bf16⟩

abbrev hbmTy0_1 (i : Nat) : BufTy := match i % 128 with
  | 0 => ⟨S6x256x224, .i32⟩
  | 1 => ⟨S6x256x224, .i32⟩
  | 2 => ⟨S6x256x7168, .fp8e4m3⟩
  | 3 => ⟨S6x256x224, .i8⟩
  | _ => ⟨S6x256x7168, .bf16⟩

abbrev hbmTy (i : Nat) : BufTy := match i / 128 with
  | 0 => hbmTy0_0 i
  | 1 => hbmTy0_1 i
  | _ => ⟨S6x256x7168, .bf16⟩

abbrev bufTy : (tb : Table) → Fin (tcTables nBuf tb) → BufTy
  | .hbm, ⟨i, _⟩ => hbmTy i
  | .local _ .vmem, ⟨0, _⟩ => ⟨S6x256x7168, .f32⟩
  | .local _ .vmem, ⟨1, _⟩ => ⟨S6x256x224, .i32⟩
  | .local _ .vmem, ⟨2, _⟩ => ⟨S6x256x7168, .fp8e4m3⟩
  | .local _ .vmem, ⟨3, _⟩ => ⟨S6x256x224, .i8⟩
  | _, _ => ⟨S6x256x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_cst_5 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_6 : Ref sig .tc := ⟨.hbm, 79, rfl⟩
abbrev main_v66 : Ref sig .tc := ⟨.hbm, 80, rfl⟩
abbrev main_cst_7 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_c : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_8 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_c_9 : Ref sig .tc := ⟨.hbm, 98, rfl⟩
abbrev main_v81 : Ref sig .tc := ⟨.hbm, 99, rfl⟩
abbrev main_c_10 : Ref sig .tc := ⟨.hbm, 100, rfl⟩
abbrev main_v82 : Ref sig .tc := ⟨.hbm, 101, rfl⟩
abbrev main_v83 : Ref sig .tc := ⟨.hbm, 102, rfl⟩
abbrev main_cst_11 : Ref sig .tc := ⟨.hbm, 103, rfl⟩
abbrev main_v84 : Ref sig .tc := ⟨.hbm, 104, rfl⟩
abbrev main_v85 : Ref sig .tc := ⟨.hbm, 105, rfl⟩
abbrev main_c_12 : Ref sig .tc := ⟨.hbm, 106, rfl⟩
abbrev main_call0_v0 : Ref sig .tc := ⟨.hbm, 107, rfl⟩
abbrev main_call0_v1 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_cst_13 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_cst_14 : Ref sig .tc := ⟨.hbm, 118, rfl⟩
abbrev main_cst_15 : Ref sig .tc := ⟨.hbm, 119, rfl⟩
abbrev main_call1_v0 : Ref sig .tc := ⟨.hbm, 120, rfl⟩
abbrev main_call1_v1 : Ref sig .tc := ⟨.hbm, 121, rfl⟩
abbrev main_call1_v2 : Ref sig .tc := ⟨.hbm, 122, rfl⟩
abbrev main_call1_v3 : Ref sig .tc := ⟨.hbm, 123, rfl⟩
abbrev main_call1_v4 : Ref sig .tc := ⟨.hbm, 124, rfl⟩
abbrev main_v94 : Ref sig .tc := ⟨.hbm, 125, rfl⟩
abbrev main_v95 : Ref sig .tc := ⟨.hbm, 126, rfl⟩
abbrev main_c_16 : Ref sig .tc := ⟨.hbm, 127, rfl⟩
abbrev main_v96 : Ref sig .tc := ⟨.hbm, 128, rfl⟩
abbrev main_v97 : Ref sig .tc := ⟨.hbm, 129, rfl⟩
abbrev main_v98_0 : Ref sig .tc := ⟨.hbm, 130, rfl⟩
abbrev main_v98_1 : Ref sig .tc := ⟨.hbm, 131, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S6x256x7168 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x256x224 .i32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S6x256x7168 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x256x224 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Spec.lean ====
module
public import Idealize.ShloMosaic.Lib.Pointwise

/-! The layer normalisation of one row and the quantisation of one block of 32 columns, as functions of extended reals, with
    the facts of them that do not mention a program. A row is a function of all natural numbers, read below 7168. -/

@[expose] public section
set_option maxRecDepth 16384

noncomputable section
namespace Cert.LN
open Idealize.ShloMosaic

/-- The number of columns of a row, as the programs write it. -/
abbrev cols : EReal := Ideal.ofBits .f32 0x45E00000#32

/-- The mean of a row. -/
def meanLoc (x : ℕ → EReal) : EReal := Ideal.div (∑ j ∈ Finset.range 7168, x j) cols

/-- The sum of the squared deviations of a row from its mean. -/
def m2Loc (x : ℕ → EReal) : EReal := ∑ j ∈ Finset.range 7168, (x j - meanLoc x) * (x j - meanLoc x)

/-- The mean of a row of local mean `ml` merged with the first peer's (count `n0`, mean `p0`). -/
def mean1 (ml n0 p0 : EReal) : EReal := p0 + (ml - p0) * Ideal.div cols (n0 + cols)

/-- The mean of a row merged with both peers'. -/
def mean (ml n0 n1 p0 p1 : EReal) : EReal :=
  mean1 ml n0 p0 + (p1 - mean1 ml n0 p0) * Ideal.div n1 (n0 + cols + n1)

/-- The reciprocal standard deviation of a row merged with both peers (`q0`, `q1`: the sums of squared deviations). -/
def rstd (ml m2 n0 n1 p0 p1 q0 q1 : EReal) : EReal :=
  Ideal.rsqrt
    (Ideal.div
      (q0 + m2 + (ml - p0) * (ml - p0) * Ideal.div (n0 * cols) (n0 + cols) + q1 +
        (p1 - mean1 ml n0 p0) * (p1 - mean1 ml n0 p0) * Ideal.div ((n0 + cols) * n1) (n0 + cols + n1))
      (n0 + cols + n1) + Ideal.ofBits .f32 0x3727C5AC#32)

/-- The largest absolute value of a block of 32 entries. -/
def amax (y : ℕ → EReal) : EReal :=
  (Finset.univ : Finset (Fin 32)).fold max (Ideal.ofBits .f32 0xFF800000#32) fun k => max (y k.val) (-(y k.val))

/-- The factor that takes the largest absolute value to the threshold the exponent is read from. -/
abbrev c448 : EReal := Ideal.ofBits .f32 0x3B124925#32

/-- One step of the search for the exponent field of `t`: add `s` to the field `E` unless that passes `t`. -/
def pick (t : EReal) (E s : BitVec 32) : BitVec 32 :=
  if t < Ideal.ofBits .f32 (IntOp.shli .vector (IntOp.addi E s) 23#32) then E else IntOp.addi E s

/-- The search for the exponent field of `t`, from its highest bit down. -/
def search (t : EReal) : BitVec 32 :=
  pick t (pick t (pick t (pick t (pick t (pick t (pick t (pick t 0#32 128#32) 64#32) 32#32) 16#32) 8#32) 4#32) 2#32) 1#32

/-- The exponent of a block whose threshold is `t`. -/
def expo (t : EReal) : BitVec 32 := if t = 0 then 0#32 else IntOp.subi (search t) 126#32

/-- Two to the power `-e`, built from its exponent field. -/
def recip (e : BitVec 32) : EReal := Ideal.ofBits .f32 (IntOp.shli .vector (IntOp.subi 127#32 e) 23#32)

/-- The code of an entry `y` under the factor `r`: the product, clipped to [-448, 448]. -/
def clip (y r : EReal) : EReal :=
  min (Ideal.ofBits .f32 0x43E00000#32) (max (Ideal.ofBits .f32 0xC3E00000#32) (y * r))

/-- The byte of an exponent. -/
def byte (e : BitVec 32) : BitVec 8 := (IntOp.addi e 127#32).setWidth 8

/-- A row normalised: its deviations from the mean `μ` times `ρ`, weighted by `g` and shifted by `b`. -/
def normed (x : ℕ → EReal) (μ ρ : EReal) (g b : ℕ → EReal) : ℕ → EReal := fun j => (x j - μ) * ρ * g j + b j

/-- The threshold of block `n` of a normalised row. -/
def tOf (y : ℕ → EReal) (n : ℕ) : EReal := amax (fun k => y (32 * n + k)) * c448

/-- The code of column `j` of a normalised row. -/
def codeOf (y : ℕ → EReal) (j : ℕ) : EReal := clip (y j) (recip (expo (tOf y (j / 32))))

/-- The scale byte of block `n` of a normalised row. -/
def scaleOf (y : ℕ → EReal) (n : ℕ) : BitVec 8 := byte (expo (tOf y n))

/-! ## Sums -/

/-- Adding a row 256 columns at a time is adding it column by column. -/
theorem sum_chunks (f : ℕ → EReal) (n : ℕ) :
    ∑ k ∈ Finset.range n, ∑ j ∈ Finset.range 256, f (256 * k + j) = ∑ j ∈ Finset.range (256 * n), f j := by
  induction n with
  | zero => rfl
  | succ n ih => rw [Finset.sum_range_succ, ih, Nat.mul_succ, Finset.sum_range_add]

/-- The kernel's order of a row's sum: 128 lanes, each of two columns of each of 28 chunks. -/
theorem sum_lanes (f : ℕ → EReal) :
    ∑ l : Fin 128, ∑ k ∈ Finset.range 28, (f (256 * k + l.val) + f (256 * k + 128 + l.val)) = ∑ j ∈ Finset.range 7168, f j := by
  rw [Finset.sum_comm, ← sum_chunks f 28]
  refine Finset.sum_congr rfl fun k _ => ?_
  rw [Finset.sum_add_distrib, show (256 : ℕ) = 128 + 128 from rfl, Finset.sum_range_add,
    Fin.sum_univ_eq_sum_range (fun l => f ((128 + 128) * k + l)) 128,
    Fin.sum_univ_eq_sum_range (fun l => f ((128 + 128) * k + 128 + l)) 128]
  simp only [Nat.add_assoc]

/-! ## Powers of two -/

/-- The fields of a word that holds `m < 256` at bit 23. -/
theorem fields : ∀ m : Fin 256, ((IntOp.shli .vector (BitVec.ofNat 32 m.val) 23#32).extractLsb' (8 + 23) 1 == 1#1) = (false : Bool)
    ∨ 256 ≤ m.val := by decide +kernel
/-- The exponent field of such a word is `m`. -/
theorem fields_exp : ∀ m : Fin 256, ((IntOp.shli .vector (BitVec.ofNat 32 m.val) 23#32).extractLsb' 23 8).toNat = m.val := by
  decide +kernel
/-- The fraction field of such a word is zero. -/
theorem fields_frac : ∀ m : Fin 256, ((IntOp.shli .vector (BitVec.ofNat 32 m.val) 23#32).extractLsb' 0 23).toNat = 0 := by
  decide +kernel

/-- A word read as a float, by its fields. -/
theorem ofBits_ieee (b : BitVec 32) : Ideal.ofBits .f32 b = Ideal.ieee 8 23 b := rfl

/-- The float of exponent field `m` between 1 and 254 is two to the power `m - 127`. -/
theorem ofBits_field (m : ℕ) (h1 : 1 ≤ m) (h2 : m ≤ 254) :
    Ideal.ofBits .f32 (IntOp.shli .vector (BitVec.ofNat 32 m) 23#32) = (((2 : ℝ) ^ ((m : ℤ) - 127) : ℝ) : EReal) := by
  have hs := (fields ⟨m, by omega⟩).resolve_right (by simp; omega)
  have he := fields_exp ⟨m, by omega⟩
  have hf := fields_frac ⟨m, by omega⟩
  simp only at hs he hf
  rw [ofBits_ieee]
  unfold Ideal.ieee
  simp only [hs, he, hf]
  rw [if_neg (by norm_num; omega), if_neg (by omega)]
  refine congrArg Real.toEReal ?_
  simp only [Bool.false_eq_true, if_false, one_mul, Nat.add_zero]
  push_cast
  rw [show (8388608 : ℝ) = (2 : ℝ) ^ (23 : ℤ) by norm_num, ← zpow_add₀ (by norm_num),
    show (23 : ℤ) + ((m : ℤ) - 127 - 23) = (m : ℤ) - 127 by ring]

/-- The float of exponent field 255 is infinity. -/
theorem ofBits_field_top : Ideal.ofBits .f32 (IntOp.shli .vector (BitVec.ofNat 32 255) 23#32) = ⊤ := by
  have hs := (fields ⟨255, by omega⟩).resolve_right (by simp)
  have he := fields_exp ⟨255, by omega⟩
  have hf := fields_frac ⟨255, by omega⟩
  simp only at hs he hf
  rw [ofBits_ieee]
  unfold Ideal.ieee
  simp only [hs, he, hf]
  rfl

/-- The `i`-th threshold: two to the power `i - 126`. -/
def thr (i : ℕ) : EReal := (((2 : ℝ) ^ ((i : ℤ) - 126) : ℝ) : EReal)

/-- The thresholds increase. -/
theorem thr_mono {i j : ℕ} (h : i ≤ j) : thr i ≤ thr j := by
  unfold thr
  rw [EReal.coe_le_coe_iff]
  exact zpow_le_zpow_right₀ (by norm_num) (by omega)

open Classical in
/-- How many of the 254 thresholds `t` reaches. -/
def count (t : EReal) : ℕ := (Finset.univ.filter fun i : Fin 254 => thr i.val ≤ t).card

/-- The thresholds reached are the first ones. -/
theorem thr_le_iff (t : EReal) (i : ℕ) (hi : i < 254) : thr i ≤ t ↔ i < count t := by
  classical
  set P : ℕ → Prop := fun m => m = 0 ∨ thr (m - 1) ≤ t with hP
  set N := Nat.findGreatest P 254 with hN
  have key : ∀ j, j < 254 → (thr j ≤ t ↔ j < N) := by
    intro j hj
    constructor
    · intro h
      exact Nat.succ_le_iff.mp (Nat.le_findGreatest (by omega) (Or.inr (by simpa using h)))
    · intro h
      have hs : P N := Nat.findGreatest_spec (P := P) (Nat.zero_le 254) (Or.inl rfl)
      rcases hs with h0 | h0
      · omega
      · exact le_trans (thr_mono (by omega)) h0
  have hcard : count t = N := by
    unfold count
    have : (Finset.univ.filter fun i : Fin 254 => thr i.val ≤ t) = Finset.univ.filter fun i : Fin 254 => i.val < N := by
      ext a; simp only [Finset.mem_filter, Finset.mem_univ, true_and]; exact key a.val a.isLt
    rw [this, Fin.card_filter_val_lt]
    have : N ≤ 254 := Nat.findGreatest_le 254
    omega
  rw [hcard]; exact key i hi

/-- The count is at most 254. -/
theorem count_le (t : EReal) : count t ≤ 254 := by
  classical
  exact le_trans (Finset.card_le_univ _) (by simp)

/-- One step of the search, in natural numbers: with `N` the count, a field `n + s ≤ 255` is kept exactly when it is at most `N`. -/
theorem pick_eq (t : EReal) (ht : t < ⊤) (n s : ℕ) (hs : 1 ≤ s) (h : n + s ≤ 255) :
    pick t (BitVec.ofNat 32 n) (BitVec.ofNat 32 s) = BitVec.ofNat 32 (if n + s ≤ count t then n + s else n) := by
  have hadd : IntOp.addi (BitVec.ofNat 32 n) (BitVec.ofNat 32 s) = BitVec.ofNat 32 (n + s) := by
    show BitVec.ofNat 32 n + BitVec.ofNat 32 s = _
    rw [BitVec.ofNat_add]
  unfold pick
  rw [hadd]
  have hiff : t < Ideal.ofBits .f32 (IntOp.shli .vector (BitVec.ofNat 32 (n + s)) 23#32) ↔ ¬ n + s ≤ count t := by
    rcases Nat.lt_or_ge (n + s) 255 with h' | h'
    · rw [ofBits_field (n + s) (by omega) (by omega)]
      have := thr_le_iff t (n + s - 1) (by omega)
      rw [show (((2 : ℝ) ^ (((n + s : ℕ) : ℤ) - 127) : ℝ) : EReal) = thr (n + s - 1) by
        unfold thr; congr 2; omega, ← not_le, this]
      omega
    · rw [show n + s = 255 by omega, ofBits_field_top]
      have := count_le t
      exact ⟨fun _ => by omega, fun _ => ht⟩
  by_cases hle : n + s ≤ count t
  · rw [if_neg (fun hc => (hiff.mp hc) hle), if_pos hle]
  · rw [if_pos (hiff.mpr hle), if_neg hle]

/-- The search in natural numbers finds the count. -/
def pickNat (N n s : ℕ) : ℕ := if n + s ≤ N then n + s else n

/-- A step of the search stays within its bound. -/
theorem pickNat_le (N n s b : ℕ) (h : n + s ≤ b) : pickNat N n s ≤ b := by unfold pickNat; split <;> omega

/-- The search finds the count. -/
theorem search_eq (t : EReal) (ht : t < ⊤) : search t = BitVec.ofNat 32 (count t) := by
  have hN := count_le t
  unfold search
  generalize hc : count t = N at hN
  have step : ∀ n s, 1 ≤ s → n + s ≤ 255 → pick t (BitVec.ofNat 32 n) (BitVec.ofNat 32 s) = BitVec.ofNat 32 (pickNat N n s) := by
    intro n s h1 h2; rw [pick_eq t ht n s h1 h2, hc]; rfl
  have b1 := pickNat_le N 0 128 128 (by omega)
  have b2 := pickNat_le N _ 64 192 (by omega : pickNat N 0 128 + 64 ≤ 192)
  have b3 := pickNat_le N _ 32 224 (by omega : pickNat N (pickNat N 0 128) 64 + 32 ≤ 224)
  have b4 := pickNat_le N _ 16 240 (by omega : pickNat N (pickNat N (pickNat N 0 128) 64) 32 + 16 ≤ 240)
  have b5 := pickNat_le N _ 8 248 (by omega : pickNat N (pickNat N (pickNat N (pickNat N 0 128) 64) 32) 16 + 8 ≤ 248)
  have b6 := pickNat_le N _ 4 252 (by omega : pickNat N (pickNat N (pickNat N (pickNat N (pickNat N 0 128) 64) 32) 16) 8 + 4 ≤ 252)
  have b7 := pickNat_le N _ 2 254
    (by omega : pickNat N (pickNat N (pickNat N (pickNat N (pickNat N (pickNat N 0 128) 64) 32) 16) 8) 4 + 2 ≤ 254)
  rw [step 0 128 (by omega) (by omega), step _ 64 (by omega) (by omega), step _ 32 (by omega) (by omega), step _ 16 (by omega) (by omega),
    step _ 8 (by omega) (by omega), step _ 4 (by omega) (by omega), step _ 2 (by omega) (by omega), step _ 1 (by omega) (by omega)]
  congr 1
  have all : ∀ N : Fin 256, pickNat N.val (pickNat N.val (pickNat N.val (pickNat N.val (pickNat N.val (pickNat N.val (pickNat N.val
      (pickNat N.val 0 128) 64) 32) 16) 8) 4) 2) 1 = N.val := by decide +kernel
  exact all ⟨N, by omega⟩

/-- The exponent in the words of the count. -/
theorem expo_eq (t : EReal) (ht : t < ⊤) : expo t = if t = 0 then 0#32 else IntOp.subi (BitVec.ofNat 32 (count t)) 126#32 := by
  unfold expo; rw [search_eq t ht]

/-- Below two to the power 126, the count is at most 252. -/
theorem count_le_of_lt (t : EReal) (h : t < thr 252) : count t ≤ 252 := by
  by_contra hc
  exact absurd ((thr_le_iff t 252 (by omega)).mpr (by omega)) (not_le.mpr h)

/-- The factor of an exponent `N - 126`, `N ≤ 252`, is the power of two the reference raises. -/
theorem recip_eq (N : ℕ) (h : N ≤ 252) :
    recip (IntOp.subi (BitVec.ofNat 32 N) 126#32)
      = Ideal.pow ((2 : ℝ) : EReal) ((((-(IntOp.subi (BitVec.ofNat 32 N) 126#32)).toInt : ℝ)) : EReal) := by
  have e1 : ∀ N : Fin 253, IntOp.subi 127#32 (IntOp.subi (BitVec.ofNat 32 N.val) 126#32) = BitVec.ofNat 32 (253 - N.val) := by
    decide +kernel
  have e2 : ∀ N : Fin 253, (-(IntOp.subi (BitVec.ofNat 32 N.val) 126#32)).toInt = 126 - (N.val : ℤ) := by decide +kernel
  unfold recip
  rw [e1 ⟨N, by omega⟩, e2 ⟨N, by omega⟩, ofBits_field _ (by simp; omega) (by simp; omega), Ideal.pow_coe_coe]
  congr 1
  rw [Real.rpow_eq_pow, Real.rpow_intCast]
  congr 1
  simp only; omega

/-- The factor of a block whose threshold is below two to the power 126. -/
theorem recip_expo (t : EReal) (h : t < thr 252) :
    recip (expo t) = Ideal.pow ((2 : ℝ) : EReal) ((((-(expo t)).toInt : ℝ)) : EReal) := by
  have ht : t < ⊤ := lt_of_lt_of_le h le_top
  rw [expo_eq t ht]
  by_cases h0 : t = 0
  · rw [if_pos h0]
    exact recip_eq 126 (by omega)
  · rw [if_neg h0]; exact recip_eq _ (count_le_of_lt t h)

end Cert.LN
end
-- ==== Proof.KPay.lean ====
module
public import proofs.«01_k».proof.Proof.Gen.KernelIdeal.Skeleton
public import proofs.«01_k».proof.Proof.Spec

/-! What each value the kernel computes is at an index, over the values it is computed from, read at extended reals. -/

@[expose] public section
set_option maxRecDepth 16384

noncomputable section
namespace Cert.KernelIdeal.Hand
open Cert.KernelIdeal Cert.KernelIdeal.Gen Idealize.ShloMosaic Cert.LN

/-- The first accumulator starts at zero. -/
theorem pay11_apply (r : Fin 256) (l : Fin 128) : k0_pay11 (F := Ideal) (ix2 r l) = 0 := by
  pointwise [k0_pay11]

/-- The second accumulator starts at zero. -/
theorem pay14_apply (r : Fin 256) (l : Fin 128) : k0_pay14 (F := Ideal) (ix2 r l) = 0 := by
  pointwise [k0_pay14]

/-- One step of the sum: two columns of the chunk are added to each lane. -/
theorem pay12_apply (a : FVec Ideal S256x128 .f32) (v : Vec Ideal S1x256x256 .bf16) (r : Fin 256) (l : Fin 128) :
    k0_pay12 a v (ix2 r l) = a (ix2 r l) + v (ix3 0 r ⟨l.val, by omega⟩) + v (ix3 0 r ⟨128 + l.val, by omega⟩) := by
  pointwise [k0_pay12]

/-- The column of local means: the sum of the lanes over the number of columns. -/
theorem pay13_apply (a : FVec Ideal S256x128 .f32) (r : Fin 256) (l : Fin 1) :
    k0_pay13 a (ix2 r l) = Ideal.div (∑ k : Fin 128, a (ix2 r k)) cols := by
  pointwise [k0_pay13]

/-- One step of the sum of squared deviations. -/
theorem pay15_apply (a b : FVec Ideal S256x128 .f32) (v : Vec Ideal S1x256x256 .bf16) (r : Fin 256) (l : Fin 128) :
    k0_pay15 a b v (ix2 r l) = b (ix2 r l)
      + (v (ix3 0 r ⟨l.val, by omega⟩) - k0_pay13 a (ix2 r 0)) * (v (ix3 0 r ⟨l.val, by omega⟩) - k0_pay13 a (ix2 r 0))
      + (v (ix3 0 r ⟨128 + l.val, by omega⟩) - k0_pay13 a (ix2 r 0)) * (v (ix3 0 r ⟨128 + l.val, by omega⟩) - k0_pay13 a (ix2 r 0)) := by
  pointwise [k0_pay15]

/-- The local means as a row. -/
theorem pay16_apply (a : FVec Ideal S256x128 .f32) (r : Fin 256) (l : Fin 1) :
    k0_pay16 a (ix2 l r) = Ideal.div (∑ k : Fin 128, a (ix2 r k)) cols := by
  rw [← pay13_apply a r 0]
  pointwise [k0_pay16]

/-- The sums of squared deviations as a row. -/
theorem pay17_apply (a : FVec Ideal S256x128 .f32) (r : Fin 256) (l : Fin 1) :
    k0_pay17 a (ix2 l r) = ∑ k : Fin 128, a (ix2 r k) := by
  pointwise [k0_pay17]

/-- The first peer's means as a row. -/
theorem pay18_apply (a : Vec Ideal S1x1x256 .f32) (r : Fin 256) (l : Fin 1) : k0_pay18 a (ix2 l r) = a (ix3 0 0 r) := by
  pointwise [k0_pay18]

/-- The first peer's sums of squared deviations as a row. -/
theorem pay19_apply (a : Vec Ideal S1x1x256 .f32) (r : Fin 256) (l : Fin 1) : k0_pay19 a (ix2 l r) = a (ix3 0 0 r) := by
  pointwise [k0_pay19]

/-- The second peer's means as a row. -/
theorem pay20_apply (a : Vec Ideal S1x1x256 .f32) (r : Fin 256) (l : Fin 1) : k0_pay20 a (ix2 l r) = a (ix3 0 0 r) := by
  pointwise [k0_pay20]

/-- The second peer's sums of squared deviations as a row. -/
theorem pay21_apply (a : Vec Ideal S1x1x256 .f32) (r : Fin 256) (l : Fin 1) : k0_pay21 a (ix2 l r) = a (ix3 0 0 r) := by
  pointwise [k0_pay21]

/-- The first peer's count, at every row. -/
theorem pay22_apply (a : Elt Ideal .f32) (r : Fin 256) (l : Fin 1) : k0_pay22 (F := Ideal) a (ix2 l r) = a := by
  pointwise [k0_pay22]

/-- The merged means of a block of rows. -/
theorem pay30_apply (v15 v23 : FVec Ideal S1x256 .f32) (v27 : Elt Ideal .f32) (v30 v34 : FVec Ideal S1x256 .f32) (r : Fin 256) (l : Fin 1) :
    k0_pay30 v15 v23 v27 v30 v34 cols (ix2 l r) = mean (v15 (ix2 l r)) (v34 (ix2 l r)) v27 (v23 (ix2 l r)) (v30 (ix2 l r)) := by
  unfold mean mean1
  pointwise [k0_pay30, k0_pay29, k0_pay28, k0_pay27, k0_pay26, k0_pay25, k0_pay24, k0_pay23]

/-- The merged reciprocal standard deviations of a block of rows. -/
theorem pay31_apply (v15 v19 v23 v26 : FVec Ideal S1x256 .f32) (v27 : Elt Ideal .f32) (v30 v33 v34 : FVec Ideal S1x256 .f32) (r : Fin 256) (l : Fin 1) :
    k0_pay31 v15 v19 v23 v26 v27 v30 v33 v34 cols (ix2 l r)
      = rstd (v15 (ix2 l r)) (v19 (ix2 l r)) (v34 (ix2 l r)) v27 (v23 (ix2 l r)) (v30 (ix2 l r)) (v26 (ix2 l r)) (v33 (ix2 l r)) := by
  unfold rstd mean1
  pointwise [k0_pay31, k0_pay29, k0_pay28, k0_pay27, k0_pay26, k0_pay25, k0_pay24, k0_pay23]

/-- The merged means, one row's at every lane. -/
theorem pay32_apply (v15 v23 : FVec Ideal S1x256 .f32) (v27 : Elt Ideal .f32) (v30 v34 : FVec Ideal S1x256 .f32) (cst : Ideal .f32) (r : Fin 256) (l : Fin 128) :
    k0_pay32 v15 v23 v27 v30 v34 cst (ix2 r l) = k0_pay30 v15 v23 v27 v30 v34 cst (ix2 0 r) := by
  pointwise [k0_pay32]

/-- The merged reciprocal standard deviations, one row's at every lane. -/
theorem pay33_apply (v15 v19 v23 v26 : FVec Ideal S1x256 .f32) (v27 : Elt Ideal .f32) (v30 v33 v34 : FVec Ideal S1x256 .f32) (cst : Ideal .f32) (r : Fin 256) (l : Fin 128) :
    k0_pay33 v15 v19 v23 v26 v27 v30 v33 v34 cst (ix2 r l) = k0_pay31 v15 v19 v23 v26 v27 v30 v33 v34 cst (ix2 0 r) := by
  pointwise [k0_pay33]

/-- The scale bytes of a block of rows: the exponents' bytes, the first 224 rows of the exponents transposed. -/
theorem pay2_apply (a : Vec Ideal S256x256 .i32) (r : Fin 256) (l : Fin 224) :
    k0_pay2 (F := Ideal) a (ix3 0 r l) = byte (a (ix2 ⟨l.val, by omega⟩ r)) := by
  unfold byte
  pointwise [k0_pay2]

/-- The normalised chunk: each half from its own columns of the input, the weights and the biases. -/
theorem pay3_apply (v69 v72 : FVec Ideal S256x128 .f32) (x1 : Vec Ideal S1x256x128 .bf16) (g1 b1 : Vec Ideal S1x128 .f32) (x2 : Vec Ideal S1x256x128 .bf16) (g2 b2 : Vec Ideal S1x128 .f32) (r : Fin 256) (l : Fin 256) :
    k0_pay3 v69 v72 x1 g1 b1 x2 g2 b2 (ix2 r l) =
      if h : l.val < 128 then
        (x1 (ix3 0 r ⟨l.val, h⟩) - v69 (ix2 r ⟨l.val, h⟩)) * v72 (ix2 r ⟨l.val, h⟩) * g1 (ix2 0 ⟨l.val, h⟩) + b1 (ix2 0 ⟨l.val, h⟩)
      else
        (x2 (ix3 0 r ⟨l.val - 128, by omega⟩) - v69 (ix2 r ⟨l.val - 128, by omega⟩)) * v72 (ix2 r ⟨l.val - 128, by omega⟩)
          * g2 (ix2 0 ⟨l.val - 128, by omega⟩) + b2 (ix2 0 ⟨l.val - 128, by omega⟩) := by
  pointwise [k0_pay3]

/-- The thresholds of a chunk's blocks: the largest absolute value of each block of 32 columns, scaled. -/
theorem pay4_apply (v69 v72 : FVec Ideal S256x128 .f32) (x1 : Vec Ideal S1x256x128 .bf16) (g1 b1 : Vec Ideal S1x128 .f32) (x2 : Vec Ideal S1x256x128 .bf16) (g2 b2 : Vec Ideal S1x128 .f32) (n : Fin 8) (r : Fin 256) :
    k0_pay4 v69 v72 x1 g1 b1 x2 g2 b2 (ix2 n r) =
      (Finset.univ : Finset (Fin 32)).fold max (Ideal.ofBits .f32 0xFF800000#32)
        (fun k => FloatOps.absf (k0_pay3 v69 v72 x1 g1 b1 x2 g2 b2 (ix2 r ⟨n.val * 32 + k.val, by omega⟩))) * c448 := by
  pointwise [k0_pay4]

/-- Whether a block's threshold is zero. -/
theorem pay5_apply (t : FVec Ideal S8x256 .f32) (n : Fin 8) (r : Fin 256) :
    k0_pay5 t (Scalar.ofBits .f32 0x00000000#32) (ix2 n r) = BitVec.ofBool (decide (t (ix2 n r) = 0)) := by
  pointwise [k0_pay5]

/-- A selection on a comparison is one step of the search. -/
theorem select_pick (t : EReal) (E s : BitVec 32) :
    Scalar.select (FloatOps.cmpf (F := Ideal) .olt (t : Ideal .f32) (FloatOps.ofBits (F := Ideal) .f32 (IntOp.shli .vector (IntOp.addi E s) 23#32)))
      E (IntOp.addi E s) = pick t E s := by
  unfold pick
  show Scalar.select (BitVec.ofBool (decide (t < Ideal.ofBits .f32 (IntOp.shli .vector (IntOp.addi E s) 23#32)))) E _ = _
  unfold Scalar.select
  by_cases h : t < Ideal.ofBits .f32 (IntOp.shli .vector (IntOp.addi E s) 23#32)
  · rw [if_pos h, decide_eq_true h]; rfl
  · rw [if_neg h, decide_eq_false h]; rfl

/-- The first six steps of the search for a block's exponent field. -/
theorem pay6_apply (t : FVec Ideal S8x256 .f32) (n : Fin 8) (r : Fin 256) :
    k0_pay6 t (ix2 n r) = pick (t (ix2 n r)) (pick (t (ix2 n r)) (pick (t (ix2 n r)) (pick (t (ix2 n r)) (pick (t (ix2 n r))
      (pick (t (ix2 n r)) 0#32 128#32) 64#32) 32#32) 16#32) 8#32) 4#32 := by
  simp only [← select_pick]
  rfl

/-- The exponent of a block, from the first six steps. -/
theorem pay8_apply (t : FVec Ideal S8x256 .f32) (n : Fin 8) (r : Fin 256) :
    k0_pay8 t (k0_pay5 t (Scalar.ofBits .f32 0x00000000#32)) (k0_pay6 t) k0_pay7 (ix2 n r) = expo (t (ix2 n r)) := by
  have h : k0_pay8 t (k0_pay5 t (Scalar.ofBits .f32 0x00000000#32)) (k0_pay6 t) k0_pay7 (ix2 n r)
      = Scalar.select (k0_pay5 t (Scalar.ofBits .f32 0x00000000#32) (ix2 n r)) 0#32 (IntOp.subi (search (t (ix2 n r))) 126#32) := by
    unfold search
    rw [← pay6_apply]
    simp only [← select_pick]
    rfl
  rw [h, pay5_apply]
  unfold expo Scalar.select
  by_cases h0 : t (ix2 n r) = 0
  · rw [if_pos h0, decide_eq_true h0]; rfl
  · rw [if_neg h0, decide_eq_false h0]; rfl

/-- What is stored of the exponents is the exponents. -/
theorem pay9_eq (t : FVec Ideal S8x256 .f32) (z : IVec S8x256 1) (e f : IVec S8x256 32) :
    k0_pay9 t z e f = k0_pay8 t z e f := by
  unfold k0_pay9; exact shapeCast_self _ _

/-- The spreading matrix: row `n` is one at the columns of block `n` and zero elsewhere. -/
theorem pay1_apply (n : Fin 128) (l : Fin 256) :
    k0_pay1 (F := Ideal) (iota .tc S128x256 32 [0] iota_S128x256_d0_w32) (iota .tc S128x256 32 [1] iota_S128x256_d1_w32) 32#32 k0_pay34 k0_pay35 1#32 (ix2 n l)
      = if n.val = l.val / 32 then 1 else 0 := by
  have hq : ∀ l : Fin 256, Scalar.select
            (IntOp.andi
              (IntOp.cmpi CmpIPredicate.ne
                (IntOp.subi (BitVec.setWidth 32 (IntOp.cmpi CmpIPredicate.sgt (BitVec.ofNat 32 l.val) 0#32))
                  (BitVec.setWidth 32 (IntOp.cmpi CmpIPredicate.slt (BitVec.ofNat 32 l.val) 0#32)))
                (Scalar.subi (1#32) (Scalar.extui (Scalar.cmpi CmpIPredicate.slt 32#32 0#32))))
              (IntOp.cmpi CmpIPredicate.ne (IntOp.remsi ArithUnit.vector (BitVec.ofNat 32 l.val) 32#32) 0#32))
            (IntOp.subi (IntOp.divsi ArithUnit.vector (BitVec.ofNat 32 l.val) 32#32) 1#32)
            (IntOp.divsi ArithUnit.vector (BitVec.ofNat 32 l.val) 32#32) = BitVec.ofNat 32 (l.val / 32) := by decide +kernel
  have hc : ∀ (n : Fin 128) (q : Fin 8), (BitVec.setWidth 32 (IntOp.cmpi CmpIPredicate.eq (BitVec.ofNat 32 n.val) (BitVec.ofNat 32 q.val))).toInt
      = if n.val = q.val then 1 else 0 := by decide +kernel
  pointwise [k0_pay1, k0_pay34, k0_pay35]
  rw [hq l]
  show (((BitVec.setWidth 32 (IntOp.cmpi CmpIPredicate.eq (BitVec.ofNat 32 n.val) (BitVec.ofNat 32 (l.val / 32)))).toInt : ℝ) : EReal) = _
  rw [hc n ⟨l.val / 32, by omega⟩]
  simp only
  split <;> simp

/-- The codes of a chunk, from the spreading matrix, the normalised chunk and the exponents. -/
theorem pay10_apply (y : FVec Ideal S256x256 .f32) (t : FVec Ideal S8x256 .f32) (z : IVec S8x256 1) (e f : IVec S8x256 32) (r l : Fin 256) :
    k0_pay10 (k0_pay1 (F := Ideal) (iota .tc S128x256 32 [0] iota_S128x256_d0_w32) (iota .tc S128x256 32 [1] iota_S128x256_d1_w32) 32#32 k0_pay34 k0_pay35 1#32)
      y t z e f (ix3 0 r l) = clip (y (ix2 r l)) (recip (k0_pay8 t z e f (ix2 ⟨l.val / 32, by omega⟩ r))) := by
  have h : ∀ w : FVec Ideal S128x256 .bf16, k0_pay10 w y t z e f (ix3 0 r l)
      = clip (y (ix2 r l)) (∑ x : Fin 8, recip (k0_pay8 t z e f (ix2 x r)) * w (ix2 ⟨x.val, by omega⟩ l)
          + ∑ x : Fin 120, 0 * w (ix2 ⟨8 + x.val, by omega⟩ l)) := by
    intro w
    unfold clip recip
    pointwise [k0_pay10]
  rw [h]
  congr 1
  have e0 : ∑ x : Fin 120, (0 : EReal) * k0_pay1 (F := Ideal) (iota .tc S128x256 32 [0] iota_S128x256_d0_w32)
      (iota .tc S128x256 32 [1] iota_S128x256_d1_w32) 32#32 k0_pay34 k0_pay35 1#32 (ix2 ⟨8 + x.val, by omega⟩ l) = 0 :=
    Finset.sum_eq_zero fun x _ => zero_mul _
  rw [e0, add_zero, Finset.sum_eq_single (⟨l.val / 32, by omega⟩ : Fin 8)]
  · rw [pay1_apply, if_pos rfl, mul_one]
  · intro x _ hx
    rw [pay1_apply, if_neg (fun hc => hx (Fin.ext hc)), mul_zero]
  · intro hx; exact absurd (Finset.mem_univ _) hx

end Cert.KernelIdeal.Hand
end
-- ==== Proof.KChunk.lean ====
module
public import proofs.«01_k».proof.Proof.KPay
public import Idealize.ShloMosaic.Lib.Pipeline.ValueKit.Tiles

/-! What one trip of the third loop computes of its chunk of 256 columns: the normalised entries, the exponents of the eight
    blocks, the codes. -/

@[expose] public section
set_option maxRecDepth 16384

noncomputable section
namespace Cert.KernelIdeal.Hand
open Cert.KernelIdeal Cert.KernelIdeal.Gen Idealize.ShloMosaic Cert.LN

/-- A row of a block of the input, by column number. -/
def xrow (X1 : Vec Ideal S1x256x7168 .bf16) (r : Fin 256) : ℕ → EReal := fun j => if h : j < 7168 then X1 (ix3 0 r ⟨j, h⟩) else 0

/-- A row of weights, by column number. -/
def vrow (X : Vec Ideal S1x7168 .f32) : ℕ → EReal := fun j => if h : j < 7168 then X (ix2 0 ⟨j, h⟩) else 0

/-- The third loop runs 28 times. -/
theorem trips3 : k0_t3_loop.trips = 28 := by decide +kernel

/-- Half `h` of a chunk of the input. -/
abbrev ldX (X1 : Vec Ideal S1x256x7168 .bf16) (k : Fin k0_t3_loop.trips) (h : Fin 2) : Vec Ideal S1x256x128 .bf16 :=
  View.ld X1 (Rect.unit (s := S1x256x7168) (k0_off6 k (BitVec.ofNat 32 (128 * h.val))) S1x256x128.size (k0_off6_inb k h))

/-- Half `h` of a chunk of the weights. -/
abbrev ldV (X : Vec Ideal S1x7168 .f32) (k : Fin k0_t3_loop.trips) (h : Fin 2) : Vec Ideal S1x128 .f32 :=
  View.ld X (Rect.unit (s := S1x7168) (k0_off7 k (BitVec.ofNat 32 (128 * h.val))) S1x128.size (k0_off7_inb k h))

/-- A half chunk of the row block, loaded, at a row and a lane. -/
theorem ldX_apply (X1 : Vec Ideal S1x256x7168 .bf16) (k : Fin k0_t3_loop.trips) (h : Fin 2) (r : Fin 256) (l : Fin 128) :
    ldX X1 k h (ix3 0 r l) = xrow X1 r (256 * k.val + 128 * h.val + l.val) := by
  have hk : k.val < 28 := Nat.lt_of_lt_of_eq k.isLt trips3
  unfold xrow
  rw [dif_pos (by omega)]
  refine View.ld_unit_apply_of (Val := Elt Ideal) X1 (k0_off6 k (BitVec.ofNat 32 (128 * h.val))) S1x256x128.size (k0_off6_inb k h) (ix3 0 r l) _ ?_
  intro a
  rw [congrFun (k0_off6_eq k h) a]
  fin_cases a <;> simp

/-- A half chunk of the weights, loaded, at a lane. -/
theorem ldV_apply (X : Vec Ideal S1x7168 .f32) (k : Fin k0_t3_loop.trips) (h : Fin 2) (l : Fin 128) :
    ldV X k h (ix2 0 l) = vrow X (256 * k.val + 128 * h.val + l.val) := by
  have hk : k.val < 28 := Nat.lt_of_lt_of_eq k.isLt trips3
  unfold vrow
  rw [dif_pos (by omega)]
  refine View.ld_unit_apply_of (Val := Elt Ideal) X (k0_off7 k (BitVec.ofNat 32 (128 * h.val))) S1x128.size (k0_off7_inb k h) (ix2 0 l) _ ?_
  intro a
  rw [congrFun (k0_off7_eq k h) a]
  fin_cases a <;> simp

/-- The normalised chunk. -/
abbrev yChunk (X1 : Vec Ideal S1x256x7168 .bf16) (X4 X5 : Vec Ideal S1x7168 .f32) (v69 v72 : FVec Ideal S256x128 .f32) (k : Fin k0_t3_loop.trips) :
    FVec Ideal S256x256 .f32 :=
  k0_pay3 v69 v72 (ldX X1 k 0) (ldV X4 k 0) (ldV X5 k 0) (ldX X1 k 1) (ldV X4 k 1) (ldV X5 k 1)

/-- The thresholds of a chunk's blocks. -/
abbrev tChunk (X1 : Vec Ideal S1x256x7168 .bf16) (X4 X5 : Vec Ideal S1x7168 .f32) (v69 v72 : FVec Ideal S256x128 .f32) (k : Fin k0_t3_loop.trips) :
    FVec Ideal S8x256 .f32 :=
  k0_pay4 v69 v72 (ldX X1 k 0) (ldV X4 k 0) (ldV X5 k 0) (ldX X1 k 1) (ldV X4 k 1) (ldV X5 k 1)

/-- The exponents of a chunk's blocks. -/
abbrev eChunk (t : FVec Ideal S8x256 .f32) : IVec S8x256 32 :=
  k0_pay9 t (k0_pay5 t (Scalar.ofBits .f32 0x00000000#32)) (k0_pay6 t) k0_pay7

/-- The codes of a chunk. -/
abbrev cChunk (y : FVec Ideal S256x256 .f32) (t : FVec Ideal S8x256 .f32) : FVec Ideal S1x256x256 .fp8e4m3 :=
  k0_pay10 (k0_pay1 (F := Ideal) (iota .tc S128x256 32 [0] iota_S128x256_d0_w32) (iota .tc S128x256 32 [1] iota_S128x256_d1_w32) 32#32 k0_pay34 k0_pay35 1#32)
    y t (k0_pay5 t (Scalar.ofBits .f32 0x00000000#32)) (k0_pay6 t) k0_pay7

variable (X1 : Vec Ideal S1x256x7168 .bf16) (X4 X5 : Vec Ideal S1x7168 .f32) (v69 v72 : FVec Ideal S256x128 .f32) (μ ρ : Fin 256 → EReal)

/-- A block's normalised row `r`, whose mean is `μ r` and whose factor is `ρ r`. -/
abbrev yrow (X1 : Vec Ideal S1x256x7168 .bf16) (X4 X5 : Vec Ideal S1x7168 .f32) (μ ρ : Fin 256 → EReal) (r : Fin 256) : ℕ → EReal :=
  normed (xrow X1 r) (μ r) (ρ r) (vrow X4) (vrow X5)

/-- An entry of the normalised chunk. -/
theorem yChunk_apply (hμ : ∀ r l, v69 (ix2 r l) = μ r) (hρ : ∀ r l, v72 (ix2 r l) = ρ r) (k : Fin k0_t3_loop.trips) (r l : Fin 256) :
    yChunk X1 X4 X5 v69 v72 k (ix2 r l) = yrow X1 X4 X5 μ ρ r (256 * k.val + l.val) := by
  rw [yChunk, pay3_apply]
  unfold yrow normed
  split
  · next h =>
    rw [ldX_apply, ldV_apply, ldV_apply, hμ, hρ]
    simp
  · next h =>
    rw [ldX_apply, ldV_apply, ldV_apply, hμ, hρ]
    have e : 256 * k.val + 128 * (1 : Fin 2).val + (l.val - 128) = 256 * k.val + l.val := by
      show 256 * k.val + 128 * 1 + (l.val - 128) = _
      omega
    rw [e]

/-- The threshold of a block of the chunk. -/
theorem tChunk_apply (hμ : ∀ r l, v69 (ix2 r l) = μ r) (hρ : ∀ r l, v72 (ix2 r l) = ρ r) (k : Fin k0_t3_loop.trips) (n : Fin 8) (r : Fin 256) :
    tChunk X1 X4 X5 v69 v72 k (ix2 n r) = tOf (yrow X1 X4 X5 μ ρ r) (8 * k.val + n.val) := by
  rw [tChunk, pay4_apply]
  unfold tOf amax
  congr 2
  funext x
  have h := yChunk_apply X1 X4 X5 v69 v72 μ ρ hμ hρ k r ⟨n.val * 32 + x.val, by omega⟩
  have e : 256 * k.val + (n.val * 32 + x.val) = 32 * (8 * k.val + n.val) + x.val := by ring
  simp only [e] at h
  exact congrArg (fun z : EReal => max z (-z)) h

/-- The exponent of a block of the chunk. -/
theorem eChunk_apply (hμ : ∀ r l, v69 (ix2 r l) = μ r) (hρ : ∀ r l, v72 (ix2 r l) = ρ r) (k : Fin k0_t3_loop.trips) (n : Fin 8) (r : Fin 256) :
    eChunk (tChunk X1 X4 X5 v69 v72 k) (ix2 n r) = expo (tOf (yrow X1 X4 X5 μ ρ r) (8 * k.val + n.val)) := by
  rw [eChunk, pay9_eq, pay8_apply, tChunk_apply X1 X4 X5 v69 v72 μ ρ hμ hρ]

/-- A code of the chunk. -/
theorem cChunk_apply (hμ : ∀ r l, v69 (ix2 r l) = μ r) (hρ : ∀ r l, v72 (ix2 r l) = ρ r) (k : Fin k0_t3_loop.trips) (r l : Fin 256) :
    cChunk (yChunk X1 X4 X5 v69 v72 k) (tChunk X1 X4 X5 v69 v72 k) (ix3 0 r l) = codeOf (yrow X1 X4 X5 μ ρ r) (256 * k.val + l.val) := by
  rw [cChunk, pay10_apply, pay8_apply, tChunk_apply X1 X4 X5 v69 v72 μ ρ hμ hρ, yChunk_apply X1 X4 X5 v69 v72 μ ρ hμ hρ]
  unfold codeOf
  rw [show (256 * k.val + l.val) / 32 = 8 * k.val + l.val / 32 by omega]

end Cert.KernelIdeal.Hand
end
-- ==== Proof.KLoops.lean ====
module
public import proofs.«01_k».proof.Proof.Gen.KernelIdeal.Loops
public import proofs.«01_k».proof.Proof.KChunk
public import Idealize.ShloMosaic.Lib.WritesUnit

/-! What the kernel's three loops compute of a block of 256 rows: the sums, the sums of squared deviations, and the codes and
    exponents that the third loop stores chunk by chunk. -/

@[expose] public section
set_option maxRecDepth 16384

noncomputable section
namespace Cert.KernelIdeal.Hand
open Cert.KernelIdeal Cert.KernelIdeal.Gen Idealize.ShloMosaic Cert.LN Idealize.ShloMosaic.Tactic

/-- The first loop runs 28 times. -/
theorem trips1 : k0_t1_loop.trips = 28 := by decide +kernel
/-- The second loop runs 28 times. -/
theorem trips2 : k0_t2_loop.trips = 28 := by decide +kernel

variable (𝒱 : Variants) (c : Dev nD) (bd : Option 𝒱.V) (i : grid0.Coords) (arg1 : Memref sig .tc .smem S2 .f32) (harg1 : arg1.IsWhole) (arg2 : Memref sig .tc .vmem S1x256x7168 .bf16) (harg2 : arg2.IsWhole) (arg3 : Memref sig .tc .vmem S2x6x256 .f32) (harg3 : arg3.IsWhole) (arg4 : Memref sig .tc .vmem S2x6x256 .f32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S1x256x7168 .fp8e4m3) (harg7 : arg7.IsWhole) (arg8 : Memref sig .tc .vmem S1x256x224 .i8) (harg8 : arg8.IsWhole) (arg9 : Memref sig .tc .vmem S6x256 .f32) (harg9 : arg9.IsWhole) (arg10 : Memref sig .tc .vmem S6x256 .f32) (harg10 : arg10.IsWhole) (arg11 : Memref sig .tc .vmem S256x256 .i32) (harg11 : arg11.IsWhole)
variable (X1 : Vec Ideal S1x256x7168 .bf16) (X4 X5 : Vec Ideal S1x7168 .f32)

/-- A chunk of the input, as the first loop reads it. -/
theorem ld1_apply (k : Fin k0_t1_loop.trips) (r l : Fin 256) :
    View.ld X1 (Rect.unit (s := S1x256x7168) (k0_off1 k) S1x256x256.size (k0_off1_inb k)) (ix3 0 r l) = xrow X1 r (256 * k.val + l.val) := by
  have hk : k.val < 28 := Nat.lt_of_lt_of_eq k.isLt trips1
  unfold xrow
  rw [dif_pos (by omega)]
  refine View.ld_unit_apply_of (Val := Elt Ideal) X1 (k0_off1 k) S1x256x256.size (k0_off1_inb k) (ix3 0 r l) _ ?_
  intro a
  rw [congrFun (k0_off1_eq k) a]
  fin_cases a <;> simp

/-- A chunk of the input, as the second loop reads it. -/
theorem ld2_apply (k : Fin k0_t2_loop.trips) (r l : Fin 256) :
    View.ld X1 (Rect.unit (s := S1x256x7168) (k0_off2 k) S1x256x256.size (k0_off2_inb k)) (ix3 0 r l) = xrow X1 r (256 * k.val + l.val) := by
  have hk : k.val < 28 := Nat.lt_of_lt_of_eq k.isLt trips2
  unfold xrow
  rw [dif_pos (by omega)]
  refine View.ld_unit_apply_of (Val := Elt Ideal) X1 (k0_off2 k) S1x256x256.size (k0_off2_inb k) (ix3 0 r l) _ ?_
  intro a
  rw [congrFun (k0_off2_eq k) a]
  fin_cases a <;> simp

/-- One trip of the first loop. -/
theorem tripR1 (k : Fin k0_t1_loop.trips) (acc : FVec Ideal S256x128 .f32) :
    tripR_k0_t1 (F := Ideal) 𝒱 c bd i arg1 harg1 arg2 harg2 arg3 harg3 arg4 harg4 arg5 harg5 arg6 harg6 arg7 harg7 arg8 harg8 arg9 harg9 arg10 harg10 arg11 harg11 (harg2.unread X1) k acc
      = k0_pay12 acc (View.ld X1 (Rect.unit (s := S1x256x7168) (k0_off1 k) S1x256x256.size (k0_off1_inb k))) := by
  unfold tripR_k0_t1 trip_k0_t1
  dsimp only
  sl_unfold_words
  simp only [View.readAt_eq_ld, harg2.read_unread]

/-- The first loop's accumulator before trip `n`. -/
theorem st1_apply (n : ℕ) (hn : n ≤ 28) (r : Fin 256) (l : Fin 128) :
    st_k0_t1 (F := Ideal) 𝒱 c bd i arg1 harg1 arg2 harg2 arg3 harg3 arg4 harg4 arg5 harg5 arg6 harg6 arg7 harg7 arg8 harg8 arg9 harg9 arg10 harg10 arg11 harg11 (harg2.unread X1) k0_pay11 n (ix2 r l)
      = ∑ k ∈ Finset.range n, (xrow X1 r (256 * k + l.val) + xrow X1 r (256 * k + 128 + l.val)) := by
  induction n with
  | zero => rw [st_k0_t1_zero, pay11_apply]; rfl
  | succ n ih =>
    have h := st_k0_t1_succ (F := Ideal) 𝒱 c bd i arg1 harg1 arg2 harg2 arg3 harg3 arg4 harg4 arg5 harg5 arg6 harg6 arg7 harg7 arg8 harg8 arg9 harg9 arg10 harg10 arg11 harg11 (harg2.unread X1) k0_pay11 ⟨n, Nat.lt_of_lt_of_eq (by omega) trips1.symm⟩
    simp only at h
    rw [h, tripR1, pay12_apply, ih (by omega), Finset.sum_range_succ, ld1_apply, ld1_apply]
    simp only [← Nat.add_assoc]
    rw [add_assoc]

/-- The means the kernel computes of its block are the rows' local means. -/
theorem mean_apply (r : Fin 256) :
    Ideal.div (∑ l : Fin 128, st_k0_t1 (F := Ideal) 𝒱 c bd i arg1 harg1 arg2 harg2 arg3 harg3 arg4 harg4 arg5 harg5 arg6 harg6 arg7 harg7 arg8 harg8 arg9 harg9 arg10 harg10 arg11 harg11 (harg2.unread X1) k0_pay11 28 (ix2 r l)) cols = meanLoc (xrow X1 r) := by
  unfold meanLoc
  rw [← sum_lanes (xrow X1 r)]
  congr 1
  exact Finset.sum_congr rfl fun l _ => st1_apply 𝒱 c bd i arg1 harg1 arg2 harg2 arg3 harg3 arg4 harg4 arg5 harg5 arg6 harg6 arg7 harg7 arg8 harg8 arg9 harg9 arg10 harg10 arg11 harg11 X1 28 le_rfl r l

/-- One trip of the second loop. -/
theorem tripR2 (v2 : FVec Ideal S256x128 .f32) (k : Fin k0_t2_loop.trips) (acc : FVec Ideal S256x128 .f32) :
    tripR_k0_t2 (F := Ideal) 𝒱 c bd i arg1 harg1 arg2 harg2 arg3 harg3 arg4 harg4 arg5 harg5 arg6 harg6 arg7 harg7 arg8 harg8 arg9 harg9 arg10 harg10 arg11 harg11 v2 (harg2.unread X1) k acc
      = k0_pay15 v2 acc (View.ld X1 (Rect.unit (s := S1x256x7168) (k0_off2 k) S1x256x256.size (k0_off2_inb k))) := by
  unfold tripR_k0_t2 trip_k0_t2
  dsimp only
  sl_unfold_words
  simp only [View.readAt_eq_ld, harg2.read_unread]

/-- The second loop's accumulator before trip `n`, over a first accumulator `v2` that gives row `r` the mean `μ`. -/
theorem st2_apply (v2 : FVec Ideal S256x128 .f32) (r : Fin 256) (μ : EReal) (hμ : k0_pay13 v2 (ix2 r 0) = μ) (n : ℕ) (hn : n ≤ 28) (l : Fin 128) :
    st_k0_t2 (F := Ideal) 𝒱 c bd i arg1 harg1 arg2 harg2 arg3 harg3 arg4 harg4 arg5 harg5 arg6 harg6 arg7 harg7 arg8 harg8 arg9 harg9 arg10 harg10 arg11 harg11 v2 (harg2.unread X1) k0_pay14 n (ix2 r l)
      = ∑ k ∈ Finset.range n, ((xrow X1 r (256 * k + l.val) - μ) * (xrow X1 r (256 * k + l.val) - μ)
          + (xrow X1 r (256 * k + 128 + l.val) - μ) * (xrow X1 r (256 * k + 128 + l.val) - μ)) := by
  induction n with
  | zero => rw [st_k0_t2_zero, pay14_apply]; rfl
  | succ n ih =>
    have h := st_k0_t2_succ (F := Ideal) 𝒱 c bd i arg1 harg1 arg2 harg2 arg3 harg3 arg4 harg4 arg5 harg5 arg6 harg6 arg7 harg7 arg8 harg8 arg9 harg9 arg10 harg10 arg11 harg11 v2 (harg2.unread X1) k0_pay14 ⟨n, Nat.lt_of_lt_of_eq (by omega) trips2.symm⟩
    simp only at h
    rw [h, tripR2, pay15_apply, ih (by omega), Finset.sum_range_succ, ld2_apply, ld2_apply, hμ]
    simp only [← Nat.add_assoc]
    rw [add_assoc]

/-- The sums of squared deviations the kernel computes of its block are the rows'. -/
theorem m2_apply (r : Fin 256) :
    ∑ l : Fin 128, st_k0_t2 (F := Ideal) 𝒱 c bd i arg1 harg1 arg2 harg2 arg3 harg3 arg4 harg4 arg5 harg5 arg6 harg6 arg7 harg7 arg8 harg8 arg9 harg9 arg10 harg10 arg11 harg11 (st_k0_t1 (F := Ideal) 𝒱 c bd i arg1 harg1 arg2 harg2 arg3 harg3 arg4 harg4 arg5 harg5 arg6 harg6 arg7 harg7 arg8 harg8 arg9 harg9 arg10 harg10 arg11 harg11 (harg2.unread X1) k0_pay11 28) (harg2.unread X1) k0_pay14 28 (ix2 r l)
      = m2Loc (xrow X1 r) := by
  unfold m2Loc
  have hμ : k0_pay13 (st_k0_t1 (F := Ideal) 𝒱 c bd i arg1 harg1 arg2 harg2 arg3 harg3 arg4 harg4 arg5 harg5 arg6 harg6 arg7 harg7 arg8 harg8 arg9 harg9 arg10 harg10 arg11 harg11 (harg2.unread X1) k0_pay11 28) (ix2 r 0) = meanLoc (xrow X1 r) := by
    rw [pay13_apply]
    exact mean_apply 𝒱 c bd i arg1 harg1 arg2 harg2 arg3 harg3 arg4 harg4 arg5 harg5 arg6 harg6 arg7 harg7 arg8 harg8 arg9 harg9 arg10 harg10 arg11 harg11 X1 r
  rw [← sum_lanes (fun j => (xrow X1 r j - meanLoc (xrow X1 r)) * (xrow X1 r j - meanLoc (xrow X1 r)))]
  exact Finset.sum_congr rfl fun l _ => st2_apply 𝒱 c bd i arg1 harg1 arg2 harg2 arg3 harg3 arg4 harg4 arg5 harg5 arg6 harg6 arg7 harg7 arg8 harg8 arg9 harg9 arg10 harg10 arg11 harg11 X1 _ r _ hμ 28 le_rfl l

variable (v69 v72 : FVec Ideal S256x128 .f32) (μ ρ : Fin 256 → EReal)

/-- One trip of the third loop: the chunk's codes into the codes, the chunk's exponents into the exponents. -/
theorem tripL3 (k : Fin k0_t3_loop.trips) :
    tripL_k0_t3 (F := Ideal) 𝒱 c bd i arg1 harg1 arg2 harg2 arg3 harg3 arg4 harg4 arg5 harg5 arg6 harg6 arg7 harg7 arg8 harg8 arg9 harg9 arg10 harg10 arg11 harg11 v69 v72 (iota .tc S128x256 32 [0] iota_S128x256_d0_w32) (iota .tc S128x256 32 [1] iota_S128x256_d1_w32) 32#32 k0_pay34 k0_pay35 1#32 (harg2.unread X1) (harg5.unread X4) (harg6.unread X5) k
      = ([⟨Rect.unit (s := S1x256x7168) (k0_off9 k) S1x256x256.size (k0_off9_inb k), cChunk (yChunk X1 X4 X5 v69 v72 k) (tChunk X1 X4 X5 v69 v72 k)⟩],
         [⟨Rect.unit (s := S256x256) (k0_off8 k) S8x256.size (k0_off8_inb k), eChunk (tChunk X1 X4 X5 v69 v72 k)⟩]) := by
  unfold tripL_k0_t3 trip_k0_t3
  dsimp only
  sl_unfold_words
  simp only [View.readAt_eq_ld, harg2.read_unread, harg5.read_unread, harg6.read_unread]
  rfl

/-- A block's codes, by row and column. -/
def codesOf : S1x256x7168.Idx → EReal := fun y => codeOf (yrow X1 X4 X5 μ ρ (y 1)) (y 2).val

/-- A block's exponents, transposed: by block of columns and row. -/
def exposOf : S256x256.Idx → BitVec 32 := fun y => expo (tOf (yrow X1 X4 X5 μ ρ (y 1)) (y 0).val)

/-- The codes at a chunk's place. -/
theorem codesOf_emb (k : Fin k0_t3_loop.trips) (r l : Fin 256) :
    codesOf X1 X4 X5 μ ρ ((Rect.unit (s := S1x256x7168) (k0_off9 k) S1x256x256.size (k0_off9_inb k)).emb (ix3 0 r l))
      = codeOf (yrow X1 X4 X5 μ ρ r) (256 * k.val + l.val) := by
  have he : ∀ a, (((Rect.unit (s := S1x256x7168) (k0_off9 k) S1x256x256.size (k0_off9_inb k)).emb (ix3 0 r l)) a).val
      = (![0, 0, 256 * k.val] : Fin 3 → ℕ) a + (ix3 (0 : Fin 1) r l a).val := fun a => by
    rw [← congrFun (k0_off9_eq k) a]
    exact (Rect.emb_apply _ _ _).trans (by simp)
  have e1 : ((Rect.unit (s := S1x256x7168) (k0_off9 k) S1x256x256.size (k0_off9_inb k)).emb (ix3 0 r l)) 1 = r :=
    Fin.ext ((he 1).trans (Nat.zero_add _))
  unfold codesOf
  rw [e1, he 2]
  rfl

/-- The exponents at a chunk's place. -/
theorem exposOf_emb (k : Fin k0_t3_loop.trips) (q : Fin 8) (r : Fin 256) :
    exposOf X1 X4 X5 μ ρ ((Rect.unit (s := S256x256) (k0_off8 k) S8x256.size (k0_off8_inb k)).emb (ix2 q r))
      = expo (tOf (yrow X1 X4 X5 μ ρ r) (8 * k.val + q.val)) := by
  have he : ∀ a, (((Rect.unit (s := S256x256) (k0_off8 k) S8x256.size (k0_off8_inb k)).emb (ix2 q r)) a).val
      = (![8 * k.val, 0] : Fin 2 → ℕ) a + (ix2 q r a).val := fun a => by
    rw [← congrFun (k0_off8_eq k) a]
    exact (Rect.emb_apply _ _ _).trans (by simp)
  have e1 : ((Rect.unit (s := S256x256) (k0_off8 k) S8x256.size (k0_off8_inb k)).emb (ix2 q r)) 1 = r :=
    Fin.ext ((he 1).trans (Nat.zero_add _))
  unfold exposOf
  rw [e1, he 0]
  rfl

/-- The codes a chunk stores are the block's at the chunk's place. -/
theorem cChunk_emb (hμ : ∀ r l, v69 (ix2 r l) = μ r) (hρ : ∀ r l, v72 (ix2 r l) = ρ r) (k : Fin k0_t3_loop.trips) (x : S1x256x256.Idx) :
    cChunk (yChunk X1 X4 X5 v69 v72 k) (tChunk X1 X4 X5 v69 v72 k) x
      = codesOf X1 X4 X5 μ ρ ((Rect.unit (s := S1x256x7168) (k0_off9 k) S1x256x256.size (k0_off9_inb k)).emb x) := by
  obtain ⟨i0, r, l, rfl⟩ : ∃ (i0 : Fin 1) (r l : Fin 256), x = ix3 i0 r l := ⟨x 0, x 1, x 2, eq_ix3 x⟩
  obtain rfl : i0 = 0 := Subsingleton.elim _ _
  rw [cChunk_apply X1 X4 X5 v69 v72 μ ρ hμ hρ]
  exact (codesOf_emb X1 X4 X5 μ ρ k r l).symm

/-- The exponents a chunk stores are the block's at the chunk's place. -/
theorem eChunk_emb (hμ : ∀ r l, v69 (ix2 r l) = μ r) (hρ : ∀ r l, v72 (ix2 r l) = ρ r) (k : Fin k0_t3_loop.trips) (x : S8x256.Idx) :
    eChunk (tChunk X1 X4 X5 v69 v72 k) x
      = exposOf X1 X4 X5 μ ρ ((Rect.unit (s := S256x256) (k0_off8 k) S8x256.size (k0_off8_inb k)).emb x) := by
  obtain ⟨q, r, rfl⟩ : ∃ (q : Fin 8) (r : Fin 256), x = ix2 q r := ⟨x 0, x 1, eq_ix2 x⟩
  rw [eChunk_apply X1 X4 X5 v69 v72 μ ρ hμ hρ]
  exact (exposOf_emb X1 X4 X5 μ ρ k q r).symm

/-- The columns of a chunk lie in its piece of the codes. -/
theorem codes_mem (k : Fin k0_t3_loop.trips) (y : S1x256x7168.Idx) (h1 : 256 * k.val ≤ (y 2).val) (h2 : (y 2).val < 256 * k.val + 256) :
    y ∈ (Rect.unit (s := S1x256x7168) (k0_off9 k) S1x256x256.size (k0_off9_inb k)).set := by
  rw [Rect.mem_set_unit]
  intro a
  rw [congrFun (k0_off9_eq k) a]
  have hy0 := (y 0).isLt
  have hy1 := (y 1).isLt
  fin_cases a
  · exact ⟨Nat.zero_le _, by simpa using hy0⟩
  · exact ⟨Nat.zero_le _, by simpa using hy1⟩
  · exact ⟨h1, h2⟩

/-- The blocks of a chunk lie in its piece of the exponents. -/
theorem expos_mem (k : Fin k0_t3_loop.trips) (y : S256x256.Idx) (h1 : 8 * k.val ≤ (y 0).val) (h2 : (y 0).val < 8 * k.val + 8) :
    y ∈ (Rect.unit (s := S256x256) (k0_off8 k) S8x256.size (k0_off8_inb k)).set := by
  rw [Rect.mem_set_unit]
  intro a
  rw [congrFun (k0_off8_eq k) a]
  have hy1 := (y 1).isLt
  fin_cases a
  · exact ⟨h1, h2⟩
  · exact ⟨Nat.zero_le _, by simpa using hy1⟩

/-- What the third loop has stored before trip `n`: pieces of the codes and of the exponents, which reach to column `256 n` and to
    block `8 n`. -/
theorem pb3 (hμ : ∀ r l, v69 (ix2 r l) = μ r) (hρ : ∀ r l, v72 (ix2 r l) = ρ r) (n : ℕ) (hn : n ≤ 28) :
    ((∀ p ∈ (pb_k0_t3 (F := Ideal) 𝒱 c bd i arg1 harg1 arg2 harg2 arg3 harg3 arg4 harg4 arg5 harg5 arg6 harg6 arg7 harg7 arg8 harg8 arg9 harg9 arg10 harg10 arg11 harg11 v69 v72 (iota .tc S128x256 32 [0] iota_S128x256_d0_w32) (iota .tc S128x256 32 [1] iota_S128x256_d1_w32) 32#32 k0_pay34 k0_pay35 1#32 (harg2.unread X1) (harg5.unread X4) (harg6.unread X5) n).1, ∀ x, p.2 x = codesOf X1 X4 X5 μ ρ (p.1.emb x))
      ∧ (∀ y : S1x256x7168.Idx, (y 2).val < 256 * n → ∃ p ∈ (pb_k0_t3 (F := Ideal) 𝒱 c bd i arg1 harg1 arg2 harg2 arg3 harg3 arg4 harg4 arg5 harg5 arg6 harg6 arg7 harg7 arg8 harg8 arg9 harg9 arg10 harg10 arg11 harg11 v69 v72 (iota .tc S128x256 32 [0] iota_S128x256_d0_w32) (iota .tc S128x256 32 [1] iota_S128x256_d1_w32) 32#32 k0_pay34 k0_pay35 1#32 (harg2.unread X1) (harg5.unread X4) (harg6.unread X5) n).1, y ∈ p.1.set))
    ∧ ((∀ p ∈ (pb_k0_t3 (F := Ideal) 𝒱 c bd i arg1 harg1 arg2 harg2 arg3 harg3 arg4 harg4 arg5 harg5 arg6 harg6 arg7 harg7 arg8 harg8 arg9 harg9 arg10 harg10 arg11 harg11 v69 v72 (iota .tc S128x256 32 [0] iota_S128x256_d0_w32) (iota .tc S128x256 32 [1] iota_S128x256_d1_w32) 32#32 k0_pay34 k0_pay35 1#32 (harg2.unread X1) (harg5.unread X4) (harg6.unread X5) n).2, ∀ x, p.2 x = exposOf X1 X4 X5 μ ρ (p.1.emb x))
      ∧ (∀ y : S256x256.Idx, (y 0).val < 8 * n → ∃ p ∈ (pb_k0_t3 (F := Ideal) 𝒱 c bd i arg1 harg1 arg2 harg2 arg3 harg3 arg4 harg4 arg5 harg5 arg6 harg6 arg7 harg7 arg8 harg8 arg9 harg9 arg10 harg10 arg11 harg11 v69 v72 (iota .tc S128x256 32 [0] iota_S128x256_d0_w32) (iota .tc S128x256 32 [1] iota_S128x256_d1_w32) 32#32 k0_pay34 k0_pay35 1#32 (harg2.unread X1) (harg5.unread X4) (harg6.unread X5) n).2, y ∈ p.1.set)) := by
  induction n with
  | zero =>
    have h : pb_k0_t3 (F := Ideal) 𝒱 c bd i arg1 harg1 arg2 harg2 arg3 harg3 arg4 harg4 arg5 harg5 arg6 harg6 arg7 harg7 arg8 harg8 arg9 harg9 arg10 harg10 arg11 harg11 v69 v72 (iota .tc S128x256 32 [0] iota_S128x256_d0_w32) (iota .tc S128x256 32 [1] iota_S128x256_d1_w32) 32#32 k0_pay34 k0_pay35 1#32 (harg2.unread X1) (harg5.unread X4) (harg6.unread X5) 0 = ([], []) := by
      rw [pb_k0_t3.eq_1]
    rw [h]
    refine ⟨⟨?_, ?_⟩, ⟨?_, ?_⟩⟩
    · intro p hp; exact absurd hp (by simp)
    · intro y hy; omega
    · intro p hp; exact absurd hp (by simp)
    · intro y hy; omega
  | succ n ih =>
    obtain ⟨⟨a1, a2⟩, ⟨b1, b2⟩⟩ := ih (by omega)
    have hlt : n < k0_t3_loop.trips := Nat.lt_of_lt_of_eq (by omega) trips3.symm
    have h := pb_k0_t3_succ (F := Ideal) 𝒱 c bd i arg1 harg1 arg2 harg2 arg3 harg3 arg4 harg4 arg5 harg5 arg6 harg6 arg7 harg7 arg8 harg8 arg9 harg9 arg10 harg10 arg11 harg11 v69 v72 (iota .tc S128x256 32 [0] iota_S128x256_d0_w32) (iota .tc S128x256 32 [1] iota_S128x256_d1_w32) 32#32 k0_pay34 k0_pay35 1#32 (harg2.unread X1) (harg5.unread X4) (harg6.unread X5) ⟨n, hlt⟩
    rw [tripL3] at h
    rw [show pb_k0_t3 (F := Ideal) 𝒱 c bd i arg1 harg1 arg2 harg2 arg3 harg3 arg4 harg4 arg5 harg5 arg6 harg6 arg7 harg7 arg8 harg8 arg9 harg9 arg10 harg10 arg11 harg11 v69 v72 (iota .tc S128x256 32 [0] iota_S128x256_d0_w32) (iota .tc S128x256 32 [1] iota_S128x256_d1_w32) 32#32 k0_pay34 k0_pay35 1#32 (harg2.unread X1) (harg5.unread X4) (harg6.unread X5) (n + 1) = _ from h]
    refine ⟨⟨?_, ?_⟩, ⟨?_, ?_⟩⟩
    · intro p hp
      rcases List.mem_append.mp hp with hp | hp
      · obtain rfl := List.mem_singleton.mp hp
        intro x
        exact cChunk_emb X1 X4 X5 v69 v72 μ ρ hμ hρ ⟨n, hlt⟩ x
      · exact a1 p hp
    · intro y hy
      by_cases hy' : (y 2).val < 256 * n
      · obtain ⟨p, hp, hpy⟩ := a2 y hy'
        exact ⟨p, List.mem_append_right _ hp, hpy⟩
      · exact ⟨_, List.mem_append_left _ (List.mem_singleton_self _), codes_mem ⟨n, hlt⟩ y (Nat.le_of_not_lt hy') (by have := hy; rw [Nat.mul_succ] at this; exact this)⟩
    · intro p hp
      rcases List.mem_append.mp hp with hp | hp
      · obtain rfl := List.mem_singleton.mp hp
        intro x
        dsimp only
        exact eChunk_emb X1 X4 X5 v69 v72 μ ρ hμ hρ ⟨n, hlt⟩ x
      · exact b1 p hp
    · intro y hy
      by_cases hy' : (y 0).val < 8 * n
      · obtain ⟨p, hp, hpy⟩ := b2 y hy'
        exact ⟨p, List.mem_append_right _ hp, hpy⟩
      · exact ⟨_, List.mem_append_left _ (List.mem_singleton_self _), expos_mem ⟨n, hlt⟩ y (Nat.le_of_not_lt hy') (by have := hy; rw [Nat.mul_succ] at this; exact this)⟩

/-- After the third loop the codes are stored whole. -/
theorem codes_read (hμ : ∀ r l, v69 (ix2 r l) = μ r) (hρ : ∀ r l, v72 (ix2 r l) = ρ r) (f : BufTy.Contents (Elt Ideal) arg7.view.ty) :
    arg7.view.read (Elt Ideal) (arg7.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 v69 v72 (iota .tc S128x256 32 [0] iota_S128x256_d0_w32) (iota .tc S128x256 32 [1] iota_S128x256_d1_w32) 32#32 k0_pay34 k0_pay35 1#32 (harg2.unread X1) (harg5.unread X4) (harg6.unread X5) 28).1) = codesOf X1 X4 X5 μ ρ := by
  obtain ⟨⟨h1, h2⟩, -⟩ := pb3 𝒱 c bd i arg1 harg1 arg2 harg2 arg3 harg3 arg4 harg4 arg5 harg5 arg6 harg6 arg7 harg7 arg8 harg8 arg9 harg9 arg10 harg10 arg11 harg11 X1 X4 X5 v69 v72 μ ρ hμ hρ 28 le_rfl
  funext y
  exact View.read_writes_apply_of_pieces arg7.view f _ _ h1 y (h2 y (y 2).isLt)

/-- After the third loop the exponents of the 224 blocks are stored. -/
theorem expos_read (hμ : ∀ r l, v69 (ix2 r l) = μ r) (hρ : ∀ r l, v72 (ix2 r l) = ρ r) (f : BufTy.Contents (Elt Ideal) arg11.view.ty)
    (y : S256x256.Idx) (hy : (y 0).val < 224) :
    arg11.view.read (Elt Ideal) (arg11.view.writes (Elt Ideal) f (pb_k0_t3 (F := Ideal) 𝒱 c bd i arg1 harg1 arg2 harg2 arg3 harg3 arg4 harg4 arg5 harg5 arg6 harg6 arg7 harg7 arg8 harg8 arg9 harg9 arg10 harg10 arg11 harg11 v69 v72 (iota .tc S128x256 32 [0] iota_S128x256_d0_w32) (iota .tc S128x256 32 [1] iota_S128x256_d1_w32) 32#32 k0_pay34 k0_pay35 1#32 (harg2.unread X1) (harg5.unread X4) (harg6.unread X5) 28).2) y = exposOf X1 X4 X5 μ ρ y := by
  obtain ⟨-, h1, h2⟩ := pb3 𝒱 c bd i arg1 harg1 arg2 harg2 arg3 harg3 arg4 harg4 arg5 harg5 arg6 harg6 arg7 harg7 arg8 harg8 arg9 harg9 arg10 harg10 arg11 harg11 X1 X4 X5 v69 v72 μ ρ hμ hρ 28 le_rfl
  exact View.read_writes_apply_of_pieces arg11.view f _ _ h1 y (h2 y hy)

end Cert.KernelIdeal.Hand
end
-- ==== Proof.KVal.lean ====
module
public import proofs.«01_k».proof.Proof.KLoops

/-! What one run of the kernel's body stores: the block's codes and scale bytes, and one row of the means and of the reciprocal standard
    deviations, as the equations of the layer norm state them. -/

@[expose] public section
set_option maxRecDepth 16384

noncomputable section
namespace Cert.KernelIdeal.Hand
open Cert.KernelIdeal Cert.KernelIdeal.Gen Cert.LN
open Idealize.ShloMosaic Idealize.ShloMosaic.Tactic

/-- Row `b` of a block of rows replaced by `v`. -/
def setRow (b : Fin 6) (v : Fin 256 → EReal) (Y : Vec Ideal S6x256 .f32) : Vec Ideal S6x256 .f32 :=
  fun y => if (y 0).val = b.val then v (y 1) else Y y

/-- The merged means of the rows of block `b`, over the peers' counts and means. -/
def muOf (b : Fin 6) (x0 : Vec Ideal S2 .f32) (x1 : Vec Ideal S1x256x7168 .bf16) (x2 : Vec Ideal S2x6x256 .f32) (r : Fin 256) : EReal :=
  mean (meanLoc (xrow x1 r)) (x0 (ix1 0)) (x0 (ix1 1)) (x2 (ix3 0 b r)) (x2 (ix3 1 b r))

/-- The merged reciprocal standard deviations of the rows of block `b`. -/
def rhoOf (b : Fin 6) (x0 : Vec Ideal S2 .f32) (x1 : Vec Ideal S1x256x7168 .bf16) (x2 x3 : Vec Ideal S2x6x256 .f32) (r : Fin 256) : EReal :=
  rstd (meanLoc (xrow x1 r)) (m2Loc (xrow x1 r)) (x0 (ix1 0)) (x0 (ix1 1)) (x2 (ix3 0 b r)) (x2 (ix3 1 b r)) (x3 (ix3 0 b r)) (x3 (ix3 1 b r))

/-- A block's scale bytes, by row and block of columns. -/
def scalesOf (X1 : Vec Ideal S1x256x7168 .bf16) (X4 X5 : Vec Ideal S1x7168 .f32) (μ ρ : Fin 256 → EReal) : Vec Ideal S1x256x224 .i8 :=
  fun y => scaleOf (yrow X1 X4 X5 μ ρ (y 1)) (y 2).val

/-- A peer's word of a pair. -/
theorem word0 (x0 : Vec Ideal S2 .f32) : (View.ld x0 (Rect.unit (s := S2) ![0] S1.size inb_S2_S1_0) (Shape.Idx.first (by decide))) = x0 (ix1 0) :=
  View.ld_unit_apply_of (Val := Elt Ideal) x0 ![0] S1.size inb_S2_S1_0 _ (ix1 0) (by intro a; fin_cases a; rfl)

/-- The other peer's word of a pair. -/
theorem word1 (x0 : Vec Ideal S2 .f32) : (View.ld x0 (Rect.unit (s := S2) ![1] S1.size inb_S2_S1_1) (Shape.Idx.first (by decide))) = x0 (ix1 1) :=
  View.ld_unit_apply_of (Val := Elt Ideal) x0 ![1] S1.size inb_S2_S1_1 _ (ix1 1) (by intro a; fin_cases a; rfl)

/-- The first peer's row of block `i 0`. -/
theorem peer0 (x : Vec Ideal S2x6x256 .f32) (i : grid0.Coords) (r : Fin 256) : (View.ld x (Rect.unit (s := S2x6x256) (k0_off3 i) S1x1x256.size (k0_off3_inb i))) (ix3 0 0 r) = x (ix3 0 (i 0) r) := by
  refine View.ld_unit_apply_of (Val := Elt Ideal) x (k0_off3 i) S1x1x256.size (k0_off3_inb i) _ (ix3 0 (i 0) r) ?_
  intro a
  rw [congrFun (k0_off3_eq i) a]
  fin_cases a <;> simp

/-- The second peer's row of block `i 0`. -/
theorem peer1 (x : Vec Ideal S2x6x256 .f32) (i : grid0.Coords) (r : Fin 256) : (View.ld x (Rect.unit (s := S2x6x256) (k0_off4 i) S1x1x256.size (k0_off4_inb i))) (ix3 0 0 r) = x (ix3 1 (i 0) r) := by
  refine View.ld_unit_apply_of (Val := Elt Ideal) x (k0_off4 i) S1x1x256.size (k0_off4_inb i) _ (ix3 1 (i 0) r) ?_
  intro a
  rw [congrFun (k0_off4_eq i) a]
  fin_cases a <;> simp

/-- A row stored at row `i 0` of a block of rows. -/
theorem row_read (arg : Memref sig .tc .vmem S6x256 .f32) (i : grid0.Coords) (f : BufTy.Contents (Elt Ideal) arg.view.ty) (Y : Vec Ideal S6x256 .f32)
    (hf : arg.view.read (Elt Ideal) f = Y) (w : Vec Ideal S1x256 .f32) (v : Fin 256 → EReal) (hw : ∀ r, w (ix2 0 r) = v r) :
    arg.view.read (Elt Ideal) (arg.view.writes (Elt Ideal) f [⟨Rect.unit (s := S6x256) (k0_off5 i) S1x256.size (k0_off5_inb i), w⟩]) = setRow (i 0) v Y := by
  funext y
  unfold setRow
  by_cases h : (y 0).val = (i 0).val
  · rw [if_pos h, ← hw (y 1)]
    exact View.read_writes_cons_rows_of_mem arg.view f (k0_off5_inb i) w [] y (ix2 0 (y 1)) (k0_off5_eq i) (by rw [h]; rfl) rfl
  · rw [if_neg h, ← hf]
    refine View.read_writes_cons_rows_of_not_mem (W := 1) arg.view f (k0_off5_inb i) w [] y (k0_off5_eq i) rfl ?_
    have : (y 0).val ≠ (i 0).val := h
    omega

variable (c : Dev nD) (i : grid0.Coords) (arg1 : Memref sig .tc .smem S2 .f32) (harg1 : arg1.IsWhole) (arg2 : Memref sig .tc .vmem S1x256x7168 .bf16) (harg2 : arg2.IsWhole) (arg3 : Memref sig .tc .vmem S2x6x256 .f32) (harg3 : arg3.IsWhole) (arg4 : Memref sig .tc .vmem S2x6x256 .f32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S1x256x7168 .fp8e4m3) (harg7 : arg7.IsWhole) (arg8 : Memref sig .tc .vmem S1x256x224 .i8) (harg8 : arg8.IsWhole) (arg9 : Memref sig .tc .vmem S6x256 .f32) (harg9 : arg9.IsWhole) (arg10 : Memref sig .tc .vmem S6x256 .f32) (harg10 : arg10.IsWhole) (arg11 : Memref sig .tc .vmem S256x256 .i32) (harg11 : arg11.IsWhole)
variable (x0 : Vec Ideal S2 .f32) (x1 : Vec Ideal S1x256x7168 .bf16) (x2 x3 : Vec Ideal S2x6x256 .f32) (x4 x5 : Vec Ideal S1x7168 .f32)

/-- The merged means of the block, as the body computes them. -/
theorem mu_apply (r : Fin 256) : k0_pay30 (k0_pay16 (st_k0_t1 (F := Ideal) Variants.none c none i arg1 harg1 arg2 harg2 arg3 harg3 arg4 harg4 arg5 harg5 arg6 harg6 arg7 harg7 arg8 harg8 arg9 harg9 arg10 harg10 arg11 harg11 (harg2.unread x1) k0_pay11 k0_t1_loop.trips)) (k0_pay18 (View.ld x2 (Rect.unit (s := S2x6x256) (k0_off3 i) S1x1x256.size (k0_off3_inb i)))) (View.ld x0 (Rect.unit (s := S2) ![1] S1.size inb_S2_S1_1) (Shape.Idx.first (by decide))) (k0_pay20 (View.ld x2 (Rect.unit (s := S2x6x256) (k0_off4 i) S1x1x256.size (k0_off4_inb i)))) (k0_pay22 (View.ld x0 (Rect.unit (s := S2) ![0] S1.size inb_S2_S1_0) (Shape.Idx.first (by decide)))) (FloatOps.ofBits .f32 1172307968#32) (ix2 0 r) = muOf (i 0) x0 x1 x2 r := by
  refine (pay30_apply _ _ _ _ _ r 0).trans ?_
  rw [pay16_apply, pay18_apply, pay20_apply, pay22_apply, word0, word1, peer0, peer1, trips1, mean_apply]
  rfl

/-- The merged reciprocal standard deviations of the block, as the body computes them. -/
theorem rho_apply (r : Fin 256) : k0_pay31 (k0_pay16 (st_k0_t1 (F := Ideal) Variants.none c none i arg1 harg1 arg2 harg2 arg3 harg3 arg4 harg4 arg5 harg5 arg6 harg6 arg7 harg7 arg8 harg8 arg9 harg9 arg10 harg10 arg11 harg11 (harg2.unread x1) k0_pay11 k0_t1_loop.trips)) (k0_pay17 (st_k0_t2 (F := Ideal) Variants.none c none i arg1 harg1 arg2 harg2 arg3 harg3 arg4 harg4 arg5 harg5 arg6 harg6 arg7 harg7 arg8 harg8 arg9 harg9 arg10 harg10 arg11 harg11 (st_k0_t1 (F := Ideal) Variants.none c none i arg1 harg1 arg2 harg2 arg3 harg3 arg4 harg4 arg5 harg5 arg6 harg6 arg7 harg7 arg8 harg8 arg9 harg9 arg10 harg10 arg11 harg11 (harg2.unread x1) k0_pay11 k0_t1_loop.trips) (harg2.unread x1) k0_pay14 k0_t2_loop.trips)) (k0_pay18 (View.ld x2 (Rect.unit (s := S2x6x256) (k0_off3 i) S1x1x256.size (k0_off3_inb i)))) (k0_pay19 (View.ld x3 (Rect.unit (s := S2x6x256) (k0_off3 i) S1x1x256.size (k0_off3_inb i)))) (View.ld x0 (Rect.unit (s := S2) ![1] S1.size inb_S2_S1_1) (Shape.Idx.first (by decide))) (k0_pay20 (View.ld x2 (Rect.unit (s := S2x6x256) (k0_off4 i) S1x1x256.size (k0_off4_inb i)))) (k0_pay21 (View.ld x3 (Rect.unit (s := S2x6x256) (k0_off4 i) S1x1x256.size (k0_off4_inb i)))) (k0_pay22 (View.ld x0 (Rect.unit (s := S2) ![0] S1.size inb_S2_S1_0) (Shape.Idx.first (by decide)))) (FloatOps.ofBits .f32 1172307968#32) (ix2 0 r) = rhoOf (i 0) x0 x1 x2 x3 r := by
  refine (pay31_apply _ _ _ _ _ _ _ _ r 0).trans ?_
  rw [pay16_apply, pay17_apply, pay18_apply, pay19_apply, pay20_apply, pay21_apply, pay22_apply, word0, word1, peer0, peer0, peer1, peer1,
    trips1, mean_apply, m2_apply]
  rfl

/-- The codes that the body leaves. -/
theorem codes_done (f : BufTy.Contents (Elt Ideal) arg7.view.ty) :
    arg7.view.read (Elt Ideal) (arg7.view.writes (Elt Ideal) f (pb_k0_t3 (F := Ideal) Variants.none c none i arg1 harg1 arg2 harg2 arg3 harg3 arg4 harg4 arg5 harg5 arg6 harg6 arg7 harg7 arg8 harg8 arg9 harg9 arg10 harg10 arg11 harg11 (k0_pay32 (k0_pay16 (st_k0_t1 (F := Ideal) Variants.none c none i arg1 harg1 arg2 harg2 arg3 harg3 arg4 harg4 arg5 harg5 arg6 harg6 arg7 harg7 arg8 harg8 arg9 harg9 arg10 harg10 arg11 harg11 (harg2.unread x1) k0_pay11 k0_t1_loop.trips)) (k0_pay18 (View.ld x2 (Rect.unit (s := S2x6x256) (k0_off3 i) S1x1x256.size (k0_off3_inb i)))) (View.ld x0 (Rect.unit (s := S2) ![1] S1.size inb_S2_S1_1) (Shape.Idx.first (by decide))) (k0_pay20 (View.ld x2 (Rect.unit (s := S2x6x256) (k0_off4 i) S1x1x256.size (k0_off4_inb i)))) (k0_pay22 (View.ld x0 (Rect.unit (s := S2) ![0] S1.size inb_S2_S1_0) (Shape.Idx.first (by decide)))) (FloatOps.ofBits .f32 1172307968#32)) (k0_pay33 (k0_pay16 (st_k0_t1 (F := Ideal) Variants.none c none i arg1 harg1 arg2 harg2 arg3 harg3 arg4 harg4 arg5 harg5 arg6 harg6 arg7 harg7 arg8 harg8 arg9 harg9 arg10 harg10 arg11 harg11 (harg2.unread x1) k0_pay11 k0_t1_loop.trips)) (k0_pay17 (st_k0_t2 (F := Ideal) Variants.none c none i arg1 harg1 arg2 harg2 arg3 harg3 arg4 harg4 arg5 harg5 arg6 harg6 arg7 harg7 arg8 harg8 arg9 harg9 arg10 harg10 arg11 harg11 (st_k0_t1 (F := Ideal) Variants.none c none i arg1 harg1 arg2 harg2 arg3 harg3 arg4 harg4 arg5 harg5 arg6 harg6 arg7 harg7 arg8 harg8 arg9 harg9 arg10 harg10 arg11 harg11 (harg2.unread x1) k0_pay11 k0_t1_loop.trips) (harg2.unread x1) k0_pay14 k0_t2_loop.trips)) (k0_pay18 (View.ld x2 (Rect.unit (s := S2x6x256) (k0_off3 i) S1x1x256.size (k0_off3_inb i)))) (k0_pay19 (View.ld x3 (Rect.unit (s := S2x6x256) (k0_off3 i) S1x1x256.size (k0_off3_inb i)))) (View.ld x0 (Rect.unit (s := S2) ![1] S1.size inb_S2_S1_1) (Shape.Idx.first (by decide))) (k0_pay20 (View.ld x2 (Rect.unit (s := S2x6x256) (k0_off4 i) S1x1x256.size (k0_off4_inb i)))) (k0_pay21 (View.ld x3 (Rect.unit (s := S2x6x256) (k0_off4 i) S1x1x256.size (k0_off4_inb i)))) (k0_pay22 (View.ld x0 (Rect.unit (s := S2) ![0] S1.size inb_S2_S1_0) (Shape.Idx.first (by decide)))) (FloatOps.ofBits .f32 1172307968#32)) (iota .tc S128x256 32 [0] iota_S128x256_d0_w32) (iota .tc S128x256 32 [1] iota_S128x256_d1_w32) 32#32 k0_pay34 k0_pay35 1#32 (harg2.unread x1) (harg5.unread x4) (harg6.unread x5) k0_t3_loop.trips).1) = codesOf x1 x4 x5 (muOf (i 0) x0 x1 x2) (rhoOf (i 0) x0 x1 x2 x3) := by
  rw [trips3]
  exact codes_read Variants.none c none i arg1 harg1 arg2 harg2 arg3 harg3 arg4 harg4 arg5 harg5 arg6 harg6 arg7 harg7 arg8 harg8 arg9 harg9 arg10 harg10 arg11 harg11 x1 x4 x5 _ _ _ _
    (fun r l => (pay32_apply _ _ _ _ _ _ r l).trans (mu_apply c i arg1 harg1 arg2 harg2 arg3 harg3 arg4 harg4 arg5 harg5 arg6 harg6 arg7 harg7 arg8 harg8 arg9 harg9 arg10 harg10 arg11 harg11 x0 x1 x2 r))
    (fun r l => (pay33_apply _ _ _ _ _ _ _ _ _ r l).trans (rho_apply c i arg1 harg1 arg2 harg2 arg3 harg3 arg4 harg4 arg5 harg5 arg6 harg6 arg7 harg7 arg8 harg8 arg9 harg9 arg10 harg10 arg11 harg11 x0 x1 x2 x3 r)) f

/-- The scale bytes that the body leaves. -/
theorem scales_done (f : BufTy.Contents (Elt Ideal) arg8.view.ty) (g : BufTy.Contents (Elt Ideal) arg11.view.ty) :
    arg8.view.read (Elt Ideal) (arg8.view.writes (Elt Ideal) f [⟨Rect.unit (s := S1x256x224) ![0, 0, 0] S1x256x224.size inb_S1x256x224_S1x256x224_0_0_0,
      k0_pay2 (View.ld (arg11.view.read (Elt Ideal) (arg11.view.writes (Elt Ideal) g (pb_k0_t3 (F := Ideal) Variants.none c none i arg1 harg1 arg2 harg2 arg3 harg3 arg4 harg4 arg5 harg5 arg6 harg6 arg7 harg7 arg8 harg8 arg9 harg9 arg10 harg10 arg11 harg11 (k0_pay32 (k0_pay16 (st_k0_t1 (F := Ideal) Variants.none c none i arg1 harg1 arg2 harg2 arg3 harg3 arg4 harg4 arg5 harg5 arg6 harg6 arg7 harg7 arg8 harg8 arg9 harg9 arg10 harg10 arg11 harg11 (harg2.unread x1) k0_pay11 k0_t1_loop.trips)) (k0_pay18 (View.ld x2 (Rect.unit (s := S2x6x256) (k0_off3 i) S1x1x256.size (k0_off3_inb i)))) (View.ld x0 (Rect.unit (s := S2) ![1] S1.size inb_S2_S1_1) (Shape.Idx.first (by decide))) (k0_pay20 (View.ld x2 (Rect.unit (s := S2x6x256) (k0_off4 i) S1x1x256.size (k0_off4_inb i)))) (k0_pay22 (View.ld x0 (Rect.unit (s := S2) ![0] S1.size inb_S2_S1_0) (Shape.Idx.first (by decide)))) (FloatOps.ofBits .f32 1172307968#32)) (k0_pay33 (k0_pay16 (st_k0_t1 (F := Ideal) Variants.none c none i arg1 harg1 arg2 harg2 arg3 harg3 arg4 harg4 arg5 harg5 arg6 harg6 arg7 harg7 arg8 harg8 arg9 harg9 arg10 harg10 arg11 harg11 (harg2.unread x1) k0_pay11 k0_t1_loop.trips)) (k0_pay17 (st_k0_t2 (F := Ideal) Variants.none c none i arg1 harg1 arg2 harg2 arg3 harg3 arg4 harg4 arg5 harg5 arg6 harg6 arg7 harg7 arg8 harg8 arg9 harg9 arg10 harg10 arg11 harg11 (st_k0_t1 (F := Ideal) Variants.none c none i arg1 harg1 arg2 harg2 arg3 harg3 arg4 harg4 arg5 harg5 arg6 harg6 arg7 harg7 arg8 harg8 arg9 harg9 arg10 harg10 arg11 harg11 (harg2.unread x1) k0_pay11 k0_t1_loop.trips) (harg2.unread x1) k0_pay14 k0_t2_loop.trips)) (k0_pay18 (View.ld x2 (Rect.unit (s := S2x6x256) (k0_off3 i) S1x1x256.size (k0_off3_inb i)))) (k0_pay19 (View.ld x3 (Rect.unit (s := S2x6x256) (k0_off3 i) S1x1x256.size (k0_off3_inb i)))) (View.ld x0 (Rect.unit (s := S2) ![1] S1.size inb_S2_S1_1) (Shape.Idx.first (by decide))) (k0_pay20 (View.ld x2 (Rect.unit (s := S2x6x256) (k0_off4 i) S1x1x256.size (k0_off4_inb i)))) (k0_pay21 (View.ld x3 (Rect.unit (s := S2x6x256) (k0_off4 i) S1x1x256.size (k0_off4_inb i)))) (k0_pay22 (View.ld x0 (Rect.unit (s := S2) ![0] S1.size inb_S2_S1_0) (Shape.Idx.first (by decide)))) (FloatOps.ofBits .f32 1172307968#32)) (iota .tc S128x256 32 [0] iota_S128x256_d0_w32) (iota .tc S128x256 32 [1] iota_S128x256_d1_w32) 32#32 k0_pay34 k0_pay35 1#32 (harg2.unread x1) (harg5.unread x4) (harg6.unread x5) k0_t3_loop.trips).2))
        (Rect.unit (s := S256x256) ![0, 0] S256x256.size inb_S256x256_S256x256_0_0))⟩]) = scalesOf x1 x4 x5 (muOf (i 0) x0 x1 x2) (rhoOf (i 0) x0 x1 x2 x3) := by
  funext y
  rw [View.ld_unit_zero (by decide), trips3]
  refine (View.read_writes_cons_unit_of_mem arg8.view f inb_S1x256x224_S1x256x224_0_0_0 _ [] y (ix3 0 (y 1) (y 2)) rfl ?_).trans ?_
  · intro a
    have h0 : (y 0).val = 0 := by have : (y 0).val < 1 := (y 0).isLt; omega
    fin_cases a
    · simpa using h0
    · simp
    · simp
  · refine (pay2_apply _ (y 1) (y 2)).trans ?_
    have h : (y 2).val < 224 := (y 2).isLt
    refine (congrArg byte (expos_read Variants.none c none i arg1 harg1 arg2 harg2 arg3 harg3 arg4 harg4 arg5 harg5 arg6 harg6 arg7 harg7 arg8 harg8 arg9 harg9 arg10 harg10 arg11 harg11 x1 x4 x5 _ _ _ _
      (fun r l => (pay32_apply _ _ _ _ _ _ r l).trans (mu_apply c i arg1 harg1 arg2 harg2 arg3 harg3 arg4 harg4 arg5 harg5 arg6 harg6 arg7 harg7 arg8 harg8 arg9 harg9 arg10 harg10 arg11 harg11 x0 x1 x2 r))
      (fun r l => (pay33_apply _ _ _ _ _ _ _ _ _ r l).trans (rho_apply c i arg1 harg1 arg2 harg2 arg3 harg3 arg4 harg4 arg5 harg5 arg6 harg6 arg7 harg7 arg8 harg8 arg9 harg9 arg10 harg10 arg11 harg11 x0 x1 x2 x3 r)) g _ h)).trans ?_
    rfl

end Cert.KernelIdeal.Hand
end
-- ==== Proof.Run.lean ====
module
public import proofs.«01_k».proof.Proof.Gen.KernelIdeal.Frame
public import proofs.«01_k».proof.Proof.KVal
public import Idealize.ShloMosaic.Lib.Claim

/-! What one run of the kernel's body leaves in its outputs, from what its inputs hold: the block's codes and scale bytes, and the
    block's row of the means and of the reciprocal standard deviations. -/

@[expose] public section
set_option maxRecDepth 16384

noncomputable section
namespace Cert.KernelIdeal.Hand
open Cert.KernelIdeal Cert.KernelIdeal.Gen Cert.LN
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

set_option maxHeartbeats 1000000 in
/-- The body's run: the inputs kept; the codes and the scale bytes of the block stored; row `i 0` of the means and of the reciprocal
    standard deviations replaced. -/
theorem kernelRun (c : Dev nD) (i : grid0.Coords) (arg1 : Memref sig .tc .smem S2 .f32) (harg1 : arg1.IsWhole) (arg2 : Memref sig .tc .vmem S1x256x7168 .bf16) (harg2 : arg2.IsWhole) (arg3 : Memref sig .tc .vmem S2x6x256 .f32) (harg3 : arg3.IsWhole) (arg4 : Memref sig .tc .vmem S2x6x256 .f32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S1x256x7168 .fp8e4m3) (harg7 : arg7.IsWhole) (arg8 : Memref sig .tc .vmem S1x256x224 .i8) (harg8 : arg8.IsWhole) (arg9 : Memref sig .tc .vmem S6x256 .f32) (harg9 : arg9.IsWhole) (arg10 : Memref sig .tc .vmem S6x256 .f32) (harg10 : arg10.IsWhole) (arg11 : Memref sig .tc .vmem S256x256 .i32) (harg11 : arg11.IsWhole)
    (x0 : Vec Ideal S2 .f32) (x1 : Vec Ideal S1x256x7168 .bf16) (x2 x3 : Vec Ideal S2x6x256 .f32) (x4 x5 : Vec Ideal S1x7168 .f32)
    (Y8 Y9 : Vec Ideal S6x256 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ owns (c : Thread nD τ) arg9 fullShare Y8 ∗ owns (c : Thread nD τ) arg10 fullShare Y9 ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (codesOf x1 x4 x5 (muOf (i 0) x0 x1 x2) (rhoOf (i 0) x0 x1 x2 x3)) ∗ owns (c : Thread nD τ) arg8 fullShare (scalesOf x1 x4 x5 (muOf (i 0) x0 x1 x2) (rhoOf (i 0) x0 x1 x2 x3)) ∗ owns (c : Thread nD τ) arg9 fullShare (setRow (i 0) (muOf (i 0) x0 x1 x2) Y8) ∗ owns (c : Thread nD τ) arg10 fullShare (setRow (i 0) (rhoOf (i 0) x0 x1 x2 x3) Y9) ∗ (∃ d, owns (c : Thread nD τ) arg11 fullShare d)) -∗ K ⟨⟩))
      ⊢ wp frame (wpE (defs₀ (F := Ideal)) Variants.none c none) E (cc0_tp_layernorm_fp8 (F := Ideal) i arg1 harg1 arg2 harg2 arg3 harg3 arg4 harg4 arg5 harg5 arg6 harg6 arg7 harg7 arg8 harg8 arg9 harg9 arg10 harg10 arg11 harg11) K := by
    intro E K
    simp only [cc0_tp_layernorm_fp8_eq_skeleton]; unfold cc0_tp_layernorm_fp8_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%f8, %hf8, H8⟩, ⟨%f9, %hf9, H9⟩, ⟨%ds0, %fs0, -, HS0⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; swap; · iexact H6
      ipureintro
      sl_unfold_words; simp only [View.readAt_eq_ld, harg1.read_unread, harg3.read_unread, harg4.read_unread]
      exact codes_done c i arg1 harg1 arg2 harg2 arg3 harg3 arg4 harg4 arg5 harg5 arg6 harg6 arg7 harg7 arg8 harg8 arg9 harg9 arg10 harg10 arg11 harg11 x0 x1 x2 x3 x4 x5 f6
    isplitl [H7]
    · iexists _; isplitr; swap; · iexact H7
      ipureintro
      sl_unfold_words; simp only [View.readAt_eq_ld, harg1.read_unread, harg3.read_unread, harg4.read_unread]
      exact scales_done c i arg1 harg1 arg2 harg2 arg3 harg3 arg4 harg4 arg5 harg5 arg6 harg6 arg7 harg7 arg8 harg8 arg9 harg9 arg10 harg10 arg11 harg11 x0 x1 x2 x3 x4 x5 f7 fs0
    isplitl [H8]
    · iexists _; isplitr; swap; · iexact H8
      ipureintro
      sl_unfold_words; simp only [View.readAt_eq_ld, harg1.read_unread, harg3.read_unread, harg4.read_unread]
      exact row_read arg9 i f8 Y8 hf8 _ _ fun r => mu_apply c i arg1 harg1 arg2 harg2 arg3 harg3 arg4 harg4 arg5 harg5 arg6 harg6 arg7 harg7 arg8 harg8 arg9 harg9 arg10 harg10 arg11 harg11 x0 x1 x2 r
    isplitl [H9]
    · iexists _; isplitr; swap; · iexact H9
      ipureintro
      sl_unfold_words; simp only [View.readAt_eq_ld, harg1.read_unread, harg3.read_unread, harg4.read_unread]
      exact row_read arg10 i f9 Y9 hf9 _ _ fun r => rho_apply c i arg1 harg1 arg2 harg2 arg3 harg3 arg4 harg4 arg5 harg5 arg6 harg6 arg7 harg7 arg8 harg8 arg9 harg9 arg10 harg10 arg11 harg11 x0 x1 x2 x3 r
    iexists _, _; isplitr; swap; · iexact HS0
    ipureintro; rfl

end Cert.KernelIdeal.Hand
end
-- ==== Proof.Launch.lean ====
module
public import proofs.«01_k».proof.Proof.Run
public import Idealize.ShloMosaic.Lib.Pipeline.DatRel

/-! The kernel's run over its six blocks: the codes and the scale bytes of each block, and the means and the reciprocal standard
    deviations row by row, each row kept once it is stored. -/

@[expose] public section
set_option maxRecDepth 16384

noncomputable section
namespace Cert.KernelIdeal.Hand
open Cert.KernelIdeal Cert.KernelIdeal.Gen Cert.LN
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## What is claimed of the outputs -/

/-- The means of the rows of the block at point `t`. -/
def muT (c : Dev nD) (t : Fin cfg0.N) : Fin 256 → EReal :=
  muOf (grid0.coords t 0) (iblk m c 0 t) (iblk m c 1 t) (iblk m c 2 t)

/-- The reciprocal standard deviations of the rows of the block at point `t`. -/
def rhoT (c : Dev nD) (t : Fin cfg0.N) : Fin 256 → EReal :=
  rhoOf (grid0.coords t 0) (iblk m c 0 t) (iblk m c 1 t) (iblk m c 2 t) (iblk m c 3 t)

/-- The codes of the block at point `t`. -/
def codesT (c : Dev nD) (t : Fin cfg0.N) : Vec Ideal S1x256x7168 .fp8e4m3 :=
  codesOf (iblk m c 1 t) (iblk m c 4 t) (iblk m c 5 t) (muT m c t) (rhoT m c t)

/-- The scale bytes of the block at point `t`. -/
def scalesT (c : Dev nD) (t : Fin cfg0.N) : Vec Ideal S1x256x224 .i8 :=
  scalesOf (iblk m c 1 t) (iblk m c 4 t) (iblk m c 5 t) (muT m c t) (rhoT m c t)

/-- The point that handles row `b`. -/
def pt (b : Fin 6) : Fin cfg0.N := ⟨b.val, by have := N_0; have := b.isLt; show b.val < grid0.N; omega⟩

/-- Rows `0` to `t` of `X` are the rows that `v` gives. -/
def RowsTo (v : Fin cfg0.N → Fin 256 → EReal) (t : Fin cfg0.N) (X : Vec Ideal S6x256 .f32) : Prop :=
  ∀ y : S6x256.Idx, (y 0).val ≤ t.val → X y = v (pt (y 0)) (y 1)

/-- The four output windows. -/
def marked : Fin 10 → Bool := fun w => w.val == 6 || w.val == 7 || w.val == 8 || w.val == 9

/-- What the body leaves in each output at point `t`. -/
def Rl (c : Dev nD) (w : Fin cfg0.W) (t : Fin cfg0.N) : ((cfg0.win w).block.Idx → Elt Ideal (cfg0.win w).elt) → Prop :=
  match w with
  | ⟨6, _⟩ => fun X => X = codesT m c t
  | ⟨7, _⟩ => fun X => X = scalesT m c t
  | ⟨8, _⟩ => fun X => RowsTo (muT m c) t X
  | ⟨9, _⟩ => fun X => RowsTo (rhoT m c) t X
  | _ => fun _ => True

/-- A point's one coordinate is its number. -/
theorem coords_val : ∀ t : Fin cfg0.N, (grid0.coords t 0).val = t.val :=
  (by decide +kernel : ∀ t : Fin grid0.N, (grid0.coords t 0).val = t.val)

/-- Storing row `t` over rows that already hold what `v` gives below `t`. -/
theorem rowsTo_step (v : Fin cfg0.N → Fin 256 → EReal) (t : Fin cfg0.N) (Y : Vec Ideal S6x256 .f32)
    (hY : ∀ y : S6x256.Idx, (y 0).val < t.val → Y y = v (pt (y 0)) (y 1)) : RowsTo v t (setRow (grid0.coords t 0) (v t) Y) := by
  intro y hy
  have hc := coords_val t
  unfold setRow
  by_cases h : (y 0).val = (grid0.coords t 0).val
  · rw [if_pos h]
    have : pt (y 0) = t := Fin.ext (h.trans hc)
    rw [this]
  · rw [if_neg h]
    exact hY y (by omega)

/-! ## The pipeline's proof data -/

/-- The arrays as the region finds them; each input's buffer at its block. -/
def dats (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- Each array as the region finds it. -/
theorem A_eq (c : Dev nD) (w : Fin cfg0.W) : (dats m c).A w = V m c (Pipeline.arrRef spec0 w) := by
  dsimp only [dats]

/-- Input 0 keeps its block. -/
theorem after0_0 (c : Dev nD) (t : Fin cfg0.N) : (dats m c).after 0 t = iblk m c 0 t := by dsimp only [dats]
/-- Input 1 keeps its block. -/
theorem after0_1 (c : Dev nD) (t : Fin cfg0.N) : (dats m c).after 1 t = iblk m c 1 t := by dsimp only [dats]
/-- Input 2 keeps its block. -/
theorem after0_2 (c : Dev nD) (t : Fin cfg0.N) : (dats m c).after 2 t = iblk m c 2 t := by dsimp only [dats]
/-- Input 3 keeps its block. -/
theorem after0_3 (c : Dev nD) (t : Fin cfg0.N) : (dats m c).after 3 t = iblk m c 3 t := by dsimp only [dats]
/-- Input 4 keeps its block. -/
theorem after0_4 (c : Dev nD) (t : Fin cfg0.N) : (dats m c).after 4 t = iblk m c 4 t := by dsimp only [dats]
/-- Input 5 keeps its block. -/
theorem after0_5 (c : Dev nD) (t : Fin cfg0.N) : (dats m c).after 5 t = iblk m c 5 t := by dsimp only [dats]

/-- Input 0 holds its block when the body starts. -/
theorem before0_0 (c : Dev nD) (t : Fin cfg0.N) (d) : (dats m c).before 0 t d = iblk m c 0 t :=
  before0_0_of m (dats m c) (A_eq m c 0) (after0_0 m c) t d
/-- Input 1 holds its block when the body starts. -/
theorem before0_1 (c : Dev nD) (t : Fin cfg0.N) (d) : (dats m c).before 1 t d = iblk m c 1 t :=
  before0_1_of m (dats m c) (A_eq m c 1) (after0_1 m c) t d
/-- Input 2 holds its block when the body starts. -/
theorem before0_2 (c : Dev nD) (t : Fin cfg0.N) (d) : (dats m c).before 2 t d = iblk m c 2 t :=
  before0_2_of m (dats m c) (A_eq m c 2) (after0_2 m c) t d
/-- Input 3 holds its block when the body starts. -/
theorem before0_3 (c : Dev nD) (t : Fin cfg0.N) (d) : (dats m c).before 3 t d = iblk m c 3 t :=
  before0_3_of m (dats m c) (A_eq m c 3) (after0_3 m c) t d
/-- Input 4 holds its block when the body starts. -/
theorem before0_4 (c : Dev nD) (t : Fin cfg0.N) (d) : (dats m c).before 4 t d = iblk m c 4 t :=
  before0_4_of m (dats m c) (A_eq m c 4) (after0_4 m c) t d
/-- Input 5 holds its block when the body starts. -/
theorem before0_5 (c : Dev nD) (t : Fin cfg0.N) (d) : (dats m c).before 5 t d = iblk m c 5 t :=
  before0_5_of m (dats m c) (A_eq m c 5) (after0_5 m c) t d

/-- The buffer that stages window 0 at a point. -/
abbrev ms0_0 (t : Fin cfg0.N) : Memref sig .tc .smem S2 .f32 := win0_0.stage (cfg0.slots t 0)
/-- The buffer that stages window 1 at a point. -/
abbrev ms0_1 (t : Fin cfg0.N) : Memref sig .tc .vmem S1x256x7168 .bf16 := win0_1.stage (cfg0.slots t 1)
/-- The buffer that stages window 2 at a point. -/
abbrev ms0_2 (t : Fin cfg0.N) : Memref sig .tc .vmem S2x6x256 .f32 := win0_2.stage (cfg0.slots t 2)
/-- The buffer that stages window 3 at a point. -/
abbrev ms0_3 (t : Fin cfg0.N) : Memref sig .tc .vmem S2x6x256 .f32 := win0_3.stage (cfg0.slots t 3)
/-- The buffer that stages window 4 at a point. -/
abbrev ms0_4 (t : Fin cfg0.N) : Memref sig .tc .vmem S1x7168 .f32 := win0_4.stage (cfg0.slots t 4)
/-- The buffer that stages window 5 at a point. -/
abbrev ms0_5 (t : Fin cfg0.N) : Memref sig .tc .vmem S1x7168 .f32 := win0_5.stage (cfg0.slots t 5)
/-- The buffer that stages window 6 at a point. -/
abbrev ms0_6 (t : Fin cfg0.N) : Memref sig .tc .vmem S1x256x7168 .fp8e4m3 := win0_6.stage (cfg0.slots t 6)
/-- The buffer that stages window 7 at a point. -/
abbrev ms0_7 (t : Fin cfg0.N) : Memref sig .tc .vmem S1x256x224 .i8 := win0_7.stage (cfg0.slots t 7)
/-- The buffer that stages window 8 at a point. -/
abbrev ms0_8 (t : Fin cfg0.N) : Memref sig .tc .vmem S6x256 .f32 := win0_8.stage (cfg0.slots t 8)
/-- The buffer that stages window 9 at a point. -/
abbrev ms0_9 (t : Fin cfg0.N) : Memref sig .tc .vmem S6x256 .f32 := win0_9.stage (cfg0.slots t 9)
/-- The scratch buffer of the blocks' exponents. -/
abbrev scM0_0 : Memref sig .tc .vmem S256x256 .i32 := Memref.whole cc0_scratch0

/-- What the body owns besides its windows: the scratch buffer and the register of the generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## What the body finds in the two outputs that are carried -/

/-- The means are never fetched. -/
theorem fetch0_8 (t : Fin cfg0.N) : (cfg0.win 8).fetch t = false := rfl
/-- The reciprocal standard deviations are never fetched. -/
theorem fetch0_9 (t : Fin cfg0.N) : (cfg0.win 9).fetch t = false := rfl

/-- When a point starts, the means hold the rows of the earlier points. -/
theorem finds8 (c : Dev nD) (t : Fin cfg0.N) (Y : Vec Ideal S6x256 .f32) (h : ((dats m c).toRRel marked (Rl m c)).Finds 8 t Y)
    (y : S6x256.Idx) (hy : (y 0).val < t.val) : Y y = muT m c (pt (y 0)) (y 1) := by
  have ht : t.val ≠ 0 := by omega
  have hN : t.val < 6 := by have h := t.isLt; have := N_0; change t.val < grid0.N at h; omega
  rcases (((dats m c).toRRel marked (Rl m c)).finds_of_pos (fetch0_8 t) ht Y).mp h with hf | hl
  · have := (flush0_8 _).mp hf
    dsimp only at this
    omega
  · exact (show RowsTo (muT m c) _ Y from Dat.toRRel_leaves (dats m c) (by decide) hl) y (by show (y 0).val ≤ t.val - 1; omega)

/-- When a point starts, the reciprocal standard deviations hold the rows of the earlier points. -/
theorem finds9 (c : Dev nD) (t : Fin cfg0.N) (Y : Vec Ideal S6x256 .f32) (h : ((dats m c).toRRel marked (Rl m c)).Finds 9 t Y)
    (y : S6x256.Idx) (hy : (y 0).val < t.val) : Y y = rhoT m c (pt (y 0)) (y 1) := by
  have ht : t.val ≠ 0 := by omega
  have hN : t.val < 6 := by have h := t.isLt; have := N_0; change t.val < grid0.N at h; omega
  rcases (((dats m c).toRRel marked (Rl m c)).finds_of_pos (fetch0_9 t) ht Y).mp h with hf | hl
  · have := (flush0_9 _).mp hf
    dsimp only at this
    omega
  · exact (show RowsTo (rhoT m c) _ Y from Dat.toRRel_leaves (dats m c) (by decide) hl) y (by show (y 0).val ≤ t.val - 1; omega)

/-! ## The body obligation, at a generic point -/

/-- What the body is called with at point `t`. -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ Y, ⌜((dats m c).toRRel marked (Rl m c)).Finds 6 t Y⌝ ∗ owns (c : Thread nD τ) (ms0_6 t) fullShare Y)
    ∗ (∃ Y, ⌜((dats m c).toRRel marked (Rl m c)).Finds 7 t Y⌝ ∗ owns (c : Thread nD τ) (ms0_7 t) fullShare Y)
    ∗ (∃ Y, ⌜((dats m c).toRRel marked (Rl m c)).Finds 8 t Y⌝ ∗ owns (c : Thread nD τ) (ms0_8 t) fullShare Y)
    ∗ (∃ Y, ⌜((dats m c).toRRel marked (Rl m c)).Finds 9 t Y⌝ ∗ owns (c : Thread nD τ) (ms0_9 t) fullShare Y))

/-- What it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ owns (c : Thread nD τ) (ms0_5 t) fullShare ((dats m c).after 5 t)
    ∗ (∃ X, ⌜Rl m c 6 t X⌝ ∗ owns (c : Thread nD τ) (ms0_6 t) fullShare X)
    ∗ (∃ X, ⌜Rl m c 7 t X⌝ ∗ owns (c : Thread nD τ) (ms0_7 t) fullShare X)
    ∗ (∃ X, ⌜Rl m c 8 t X⌝ ∗ owns (c : Thread nD τ) (ms0_8 t) fullShare X)
    ∗ (∃ X, ⌜Rl m c 9 t X⌝ ∗ owns (c : Thread nD τ) (ms0_9 t) fullShare X))

set_option maxHeartbeats 800000 in
/-- The body at any point. -/
theorem sound_body (c : Dev nD) (t : Fin cfg0.N) :
    bodyPre m c t ⊢ wp frame (wpE (defs₀ (F := Ideal)) Variants.none c none) Set.univ (bodyAt0 (F := Ideal) t) (fun _ => bodyPost m c t) := by
  unfold bodyPre bodyPost bodyAt0
  simp only [before0_0, before0_1, before0_2, before0_3, before0_4, before0_5]
  rw [show (dats m c).Φ t.succ = (dats m c).Φ t.castSucc from rfl,
    show (dats m c).owesAt () t.succ = (dats m c).owesAt () t.castSucc from rfl,
    after0_0, after0_1, after0_2, after0_3, after0_4, after0_5]
  rw [show (dats m c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, -, H6⟩, ⟨%d7, -, H7⟩, ⟨%Y8, %h8, H8⟩, ⟨%Y9, %h9, H9⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t) Y8 Y9) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexact H8
  isplitl [H9]; · iexact H9
  isplitl [HS0]; · iexact HS0
  iintro ⟨H0, H1, H2, H3, H4, H5, H6, H7, H8, H9, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact rfl
  isplitl [H7]
  · iexists _; isplitr; swap; · iexact H7
    ipureintro; exact rfl
  isplitl [H8]
  · iexists _; isplitr; swap; · iexact H8
    ipureintro; exact rowsTo_step (muT m c) t Y8 (finds8 m c t Y8 h8)
  iexists _; isplitr; swap; · iexact H9
  ipureintro; exact rowsTo_step (rhoT m c) t Y9 (finds9 m c t Y9 h9)

/-- The body's procedure at a point is the kernel's body over the staged buffers. -/
theorem defs₀_row (t : Fin cfg0.N) :
    defs₀ (F := Ideal) .tc cfg0.body (cfg0.bodyArgs t (cfg0.slots t)) = bodyAt0 t := by
  unfold defs₀; rw [Defs.onTc_tc]

/-- The body's triple restated as the pipeline asks for it. -/
theorem body_obligation (c : Dev nD) :
    Pipeline.BodyObligationRel (dats m c) (defs₀ (F := Ideal)) Variants.none () Set.univ marked (Rl m c) := fun t => by
  rw [bigSep_W0, bigSep_W0, defs₀_row]
  exact triple_restated (sound_body m c t) rfl .rfl fun _ => .rfl

/-! ## The run -/

/-- The relational data of the run. -/
def rdat (c : Dev nD) : Pipeline.RDat τ (Elt Ideal) Unit ℕ (UR sig nD τ) ℕ (cfgs 0) c := (dats m c).toRRel marked (Rl m c)

set_option backward.isDefEq.respectTransparency.types false in
/-- Every execution ends, in a state as `rdat` says and with every semaphore counter at zero. -/
theorem run_main : θ_run defs (onTc (τ := τ) (main (F := Ideal))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m c).share_full fun _ => rfl)
    (howed := fun _ _ => rfl) (V := V m) (hmain := hmain m Variants.none) (hA := A_eq m) (hΦ := fun _ _ => rfl)
    (hQ' := fun _ h => h)

end Cert.KernelIdeal.Hand
end
-- ==== Proof.Result.lean ====
module
public import proofs.«01_k».proof.Proof.Spec

/-! The four results as functions of the arguments: `x` the rows, `n` the peers' counts, `p` and `q` their means and sums of squares, `g`
    and `be` the weights. -/

@[expose] public section

noncomputable section
namespace Cert.LN
open Idealize.ShloMosaic

/-- A row of 7168 values, by column number. -/
def ofRow (x : Fin 7168 → EReal) : ℕ → EReal := fun j => if h : j < 7168 then x ⟨j, h⟩ else 0

/-- The arguments at the extended reals. -/
structure Args where
  /-- The rows. -/
  x : Fin 6 → Fin 256 → Fin 7168 → EReal
  /-- The peers' counts. -/
  n : Fin 2 → EReal
  /-- The peers' means. -/
  p : Fin 2 → Fin 6 → Fin 256 → EReal
  /-- The peers' sums of squared differences. -/
  q : Fin 2 → Fin 6 → Fin 256 → EReal
  /-- The scale weights. -/
  g : Fin 7168 → EReal
  /-- The shift weights. -/
  be : Fin 7168 → EReal

/-- The mean of a row, merged with the peers'. -/
def Args.mean (a : Args) (b : Fin 6) (r : Fin 256) : EReal :=
  LN.mean (meanLoc (ofRow (a.x b r))) (a.n 0) (a.n 1) (a.p 0 b r) (a.p 1 b r)

/-- The reciprocal standard deviation of a row, merged with the peers'. -/
def Args.rstd (a : Args) (b : Fin 6) (r : Fin 256) : EReal :=
  LN.rstd (meanLoc (ofRow (a.x b r))) (m2Loc (ofRow (a.x b r))) (a.n 0) (a.n 1) (a.p 0 b r) (a.p 1 b r) (a.q 0 b r) (a.q 1 b r)

/-- The normalised row. -/
def Args.row (a : Args) (b : Fin 6) (r : Fin 256) : ℕ → EReal :=
  normed (ofRow (a.x b r)) (a.mean b r) (a.rstd b r) (ofRow a.g) (ofRow a.be)

/-- A code. -/
def Args.code (a : Args) (b : Fin 6) (r : Fin 256) (j : ℕ) : EReal := codeOf (a.row b r) j

/-- A scale byte. -/
def Args.scale (a : Args) (b : Fin 6) (r : Fin 256) (k : ℕ) : BitVec 8 := scaleOf (a.row b r) k

end Cert.LN
end
-- ==== Proof.KBlocks.lean ====
module
public import proofs.«01_k».proof.Proof.Launch
public import proofs.«01_k».proof.Proof.Result
public import Idealize.ShloMosaic.Lib.Pipeline.ValueKit.Geometry
public import Idealize.ShloMosaic.Lib.Pipeline.ValueKit.Point
public import Idealize.ShloMosaic.Lib.StableHlo.Run

/-! The blocks that the kernel reads, and what it computes of them, by the entries of the arguments. -/

@[expose] public section
set_option maxRecDepth 16384

noncomputable section
namespace Cert.KernelIdeal.Hand
open Cert.KernelIdeal Cert.KernelIdeal.Gen Cert.LN
open Idealize.ShloMosaic Idealize.ShloMosaic.TcCoe Idealize.ShloMosaic.Tactic Idealize.SL.Sem
open Idealize.ShloMosaic.StableHlo

variable (m : (ℓ : Loc nD τ sig) → Buf (Elt Ideal) ℓ)

/-- The arguments of core `c`, as the kernel finds them. -/
def argsOf (c : Dev nD) : Args where
  x b r j := (m ((c.tc : Thread nD τ).loc main_arg0) : Vec Ideal S6x256x7168 .bf16) (ix3 b r j)
  n k := (m ((c.tc : Thread nD τ).loc main_arg1) : Vec Ideal S2 .f32) (ix1 k)
  p k b r := (m ((c.tc : Thread nD τ).loc main_arg2) : Vec Ideal S2x6x256 .f32) (ix3 k b r)
  q k b r := (m ((c.tc : Thread nD τ).loc main_arg3) : Vec Ideal S2x6x256 .f32) (ix3 k b r)
  g j := (m ((c.tc : Thread nD τ).loc main_arg4) : Vec Ideal S7168 .f32) (ix1 j)
  be j := (m ((c.tc : Thread nD τ).loc main_arg5) : Vec Ideal S7168 .f32) (ix1 j)

/-- The block of input 0 at a point, by its index along each axis. -/
theorem idx0 : ∀ t : Fin cfg0.N, win0_0.index t = ![0] := (by decide +kernel : ∀ t : Fin grid0.N, _)
/-- The block of input 1 at a point, by its index along each axis. -/
theorem idx1 : ∀ t : Fin cfg0.N, win0_1.index t = ![(grid0.coords t 0).val, 0, 0] := (by decide +kernel : ∀ t : Fin grid0.N, _)
/-- The block of input 2 at a point, by its index along each axis. -/
theorem idx2 : ∀ t : Fin cfg0.N, win0_2.index t = ![0, 0, 0] := (by decide +kernel : ∀ t : Fin grid0.N, _)
/-- The block of input 3 at a point, by its index along each axis. -/
theorem idx3 : ∀ t : Fin cfg0.N, win0_3.index t = ![0, 0, 0] := (by decide +kernel : ∀ t : Fin grid0.N, _)
/-- The block of input 4 at a point, by its index along each axis. -/
theorem idx4 : ∀ t : Fin cfg0.N, win0_4.index t = ![0, 0] := (by decide +kernel : ∀ t : Fin grid0.N, _)
/-- The block of input 5 at a point, by its index along each axis. -/
theorem idx5 : ∀ t : Fin cfg0.N, win0_5.index t = ![0, 0] := (by decide +kernel : ∀ t : Fin grid0.N, _)

/-- The scale weights as the region finds them. -/
theorem V_main_v0 (c : Dev nD) : (V m c main_v0 : Vec Ideal S1x7168 .f32) = shapeCast S1x7168 (m ((c.tc : Thread nD τ).loc main_arg4) : Vec Ideal S7168 .f32) shapeCasts_S7168_S1x7168 := by
  simp only [V, hostOps0]
  after_results_simp <;> rfl

/-- The shift weights as the region finds them. -/
theorem V_main_v1 (c : Dev nD) : (V m c main_v1 : Vec Ideal S1x7168 .f32) = shapeCast S1x7168 (m ((c.tc : Thread nD τ).loc main_arg5) : Vec Ideal S7168 .f32) shapeCasts_S7168_S1x7168 := by
  simp only [V, hostOps0]
  after_results_simp <;> rfl

/-- An entry of the peers' counts, read off the staged block. -/
theorem iblk0 (c : Dev nD) (t : Fin cfg0.N) (k : Fin 2) : (iblk m c 0 t : Vec Ideal S2 .f32) (ix1 k) = (argsOf m c).n k := by
  show (iblk m c 0 t : Vec Ideal S2 .f32) (ix1 k) = (m ((c.tc : Thread nD τ).loc main_arg1) : Vec Ideal S2 .f32) (ix1 k)
  rw [← V_main_arg1 m c]
  unfold iblk
  rw [View.read_apply]
  show V m c main_arg1 _ = V m c main_arg1 _
  congr 1
  blk_ext [idx0 t]

/-- An entry of the row block of `x`, read off the staged block. -/
theorem iblk1 (c : Dev nD) (t : Fin cfg0.N) (b : Fin 6) (hb : t.val = b.val) (r : Fin 256) (j : Fin 7168) :
    (iblk m c 1 t : Vec Ideal S1x256x7168 .bf16) (ix3 0 r j) = (argsOf m c).x b r j := by
  show (iblk m c 1 t : Vec Ideal S1x256x7168 .bf16) (ix3 0 r j) = (m ((c.tc : Thread nD τ).loc main_arg0) : Vec Ideal S6x256x7168 .bf16) (ix3 b r j)
  rw [← V_main_arg0 m c]
  have ht := coords_val t
  unfold iblk
  rw [View.read_apply]
  show V m c main_arg0 _ = V m c main_arg0 _
  congr 1
  blk_ext [idx1 t]

/-- An entry of the peers' means, read off the staged block. -/
theorem iblk2 (c : Dev nD) (t : Fin cfg0.N) (k : Fin 2) (b : Fin 6) (r : Fin 256) :
    (iblk m c 2 t : Vec Ideal S2x6x256 .f32) (ix3 k b r) = (argsOf m c).p k b r := by
  show (iblk m c 2 t : Vec Ideal S2x6x256 .f32) (ix3 k b r) = (m ((c.tc : Thread nD τ).loc main_arg2) : Vec Ideal S2x6x256 .f32) (ix3 k b r)
  rw [← V_main_arg2 m c]
  unfold iblk
  rw [View.read_apply]
  show V m c main_arg2 _ = V m c main_arg2 _
  congr 1
  blk_ext [idx2 t]

/-- An entry of the peers' sums of squares, read off the staged block. -/
theorem iblk3 (c : Dev nD) (t : Fin cfg0.N) (k : Fin 2) (b : Fin 6) (r : Fin 256) :
    (iblk m c 3 t : Vec Ideal S2x6x256 .f32) (ix3 k b r) = (argsOf m c).q k b r := by
  show (iblk m c 3 t : Vec Ideal S2x6x256 .f32) (ix3 k b r) = (m ((c.tc : Thread nD τ).loc main_arg3) : Vec Ideal S2x6x256 .f32) (ix3 k b r)
  rw [← V_main_arg3 m c]
  unfold iblk
  rw [View.read_apply]
  show V m c main_arg3 _ = V m c main_arg3 _
  congr 1
  blk_ext [idx3 t]

/-- A vector laid as one row, read at a column. -/
theorem row_cast (x : Vec Ideal S7168 .f32) (j : Fin 7168) : shapeCast S1x7168 x shapeCasts_S7168_S1x7168 (ix2 0 j) = x (ix1 j) := by
  pointwise

/-- A scale weight, read off the staged block. -/
theorem iblk4 (c : Dev nD) (t : Fin cfg0.N) (j : Fin 7168) : (iblk m c 4 t : Vec Ideal S1x7168 .f32) (ix2 0 j) = (argsOf m c).g j := by
  show (iblk m c 4 t : Vec Ideal S1x7168 .f32) (ix2 0 j) = (m ((c.tc : Thread nD τ).loc main_arg4) : Vec Ideal S7168 .f32) (ix1 j)
  refine Eq.trans ?_ (row_cast _ j)
  rw [← V_main_v0 m c]
  unfold iblk
  rw [View.read_apply]
  show V m c main_v0 _ = V m c main_v0 _
  congr 1
  blk_ext [idx4 t]

/-- A shift weight, read off the staged block. -/
theorem iblk5 (c : Dev nD) (t : Fin cfg0.N) (j : Fin 7168) : (iblk m c 5 t : Vec Ideal S1x7168 .f32) (ix2 0 j) = (argsOf m c).be j := by
  show (iblk m c 5 t : Vec Ideal S1x7168 .f32) (ix2 0 j) = (m ((c.tc : Thread nD τ).loc main_arg5) : Vec Ideal S7168 .f32) (ix1 j)
  refine Eq.trans ?_ (row_cast _ j)
  rw [← V_main_v1 m c]
  unfold iblk
  rw [View.read_apply]
  show V m c main_v1 _ = V m c main_v1 _
  congr 1
  blk_ext [idx5 t]

/-- A row of the staged block of `x` is the row of the argument. -/
theorem xrow_iblk (c : Dev nD) (t : Fin cfg0.N) (b : Fin 6) (hb : t.val = b.val) (r : Fin 256) :
    xrow (iblk m c 1 t) r = ofRow ((argsOf m c).x b r) := by
  funext j; unfold xrow ofRow
  split
  · exact iblk1 m c t b hb r _
  · rfl

/-- The staged scale weights as a row. -/
theorem vrow_iblk4 (c : Dev nD) (t : Fin cfg0.N) : vrow (iblk m c 4 t) = ofRow (argsOf m c).g := by
  funext j; unfold vrow ofRow
  split
  · exact iblk4 m c t _
  · rfl

/-- The staged shift weights as a row. -/
theorem vrow_iblk5 (c : Dev nD) (t : Fin cfg0.N) : vrow (iblk m c 5 t) = ofRow (argsOf m c).be := by
  funext j; unfold vrow ofRow
  split
  · exact iblk5 m c t _
  · rfl

/-- A point's coordinate is the batch entry it handles. -/
theorem point_row (t : Fin cfg0.N) (b : Fin 6) (hb : t.val = b.val) : (grid0.coords t 0 : Fin 6) = b :=
  Fin.ext ((coords_val t).trans hb)

/-- The means of block `b`, by the arguments. -/
theorem muT_eq (c : Dev nD) (t : Fin cfg0.N) (b : Fin 6) (hb : t.val = b.val) (r : Fin 256) : muT m c t r = (argsOf m c).mean b r := by
  have e : muT m c t r = muOf b (iblk m c 0 t) (iblk m c 1 t) (iblk m c 2 t) r :=
    congrArg (fun i => muOf i (iblk m c 0 t) (iblk m c 1 t) (iblk m c 2 t) r) (point_row t b hb)
  rw [e]
  unfold muOf Args.mean
  rw [xrow_iblk m c t b hb, iblk0, iblk0, iblk2, iblk2]

/-- The reciprocal standard deviations of block `b`, by the arguments. -/
theorem rhoT_eq (c : Dev nD) (t : Fin cfg0.N) (b : Fin 6) (hb : t.val = b.val) (r : Fin 256) : rhoT m c t r = (argsOf m c).rstd b r := by
  have e : rhoT m c t r = rhoOf b (iblk m c 0 t) (iblk m c 1 t) (iblk m c 2 t) (iblk m c 3 t) r :=
    congrArg (fun i => rhoOf i (iblk m c 0 t) (iblk m c 1 t) (iblk m c 2 t) (iblk m c 3 t) r) (point_row t b hb)
  rw [e]
  unfold rhoOf Args.rstd
  rw [xrow_iblk m c t b hb, iblk0, iblk0, iblk2, iblk2, iblk3, iblk3]

/-- The normalised row that a point computes is the normalised row of the arguments. -/
theorem yrow_eq (c : Dev nD) (t : Fin cfg0.N) (b : Fin 6) (hb : t.val = b.val) (r : Fin 256) :
    yrow (iblk m c 1 t) (iblk m c 4 t) (iblk m c 5 t) (muT m c t) (rhoT m c t) r = (argsOf m c).row b r := by
  unfold yrow Args.row
  rw [xrow_iblk m c t b hb, vrow_iblk4, vrow_iblk5, muT_eq m c t b hb, rhoT_eq m c t b hb]

/-- A code of block `b`, by the arguments. -/
theorem codesT_eq (c : Dev nD) (t : Fin cfg0.N) (b : Fin 6) (hb : t.val = b.val) (y : S1x256x7168.Idx) :
    codesT m c t y = (argsOf m c).code b (y 1) (y 2).val :=
  congrArg (fun w => codeOf w (y 2).val) (yrow_eq m c t b hb (y 1))

/-- A scale byte of block `b`, by the arguments. -/
theorem scalesT_eq (c : Dev nD) (t : Fin cfg0.N) (b : Fin 6) (hb : t.val = b.val) (y : S1x256x224.Idx) :
    scalesT m c t y = (argsOf m c).scale b (y 1) (y 2).val :=
  congrArg (fun w => scaleOf w (y 2).val) (yrow_eq m c t b hb (y 1))

end Cert.KernelIdeal.Hand
end
-- ==== Proof.KFinal.lean ====
module
public import proofs.«01_k».proof.Proof.KBlocks
public import Idealize.ShloMosaic.Lib.Pipeline.ArrRel

/-! What the kernel's four result arrays hold when it ends. -/

@[expose] public section
set_option maxRecDepth 16384

noncomputable section
namespace Cert.KernelIdeal.Hand
open Cert.KernelIdeal Cert.KernelIdeal.Gen Cert.LN
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The codes. -/
def codes (a : Args) : Vec Ideal S6x256x7168 .fp8e4m3 := fun y => a.code (y 0) (y 1) (y 2).val
/-- The scale bytes. -/
def scales (a : Args) : Vec Ideal S6x256x224 .i8 := fun y => a.scale (y 0) (y 1) (y 2).val
/-- The means. -/
def means (a : Args) : Vec Ideal S6x256 .f32 := fun y => a.mean (y 0) (y 1)
/-- The reciprocal standard deviations. -/
def rstds (a : Args) : Vec Ideal S6x256 .f32 := fun y => a.rstd (y 0) (y 1)

/-- The codes' block at a point. -/
theorem idx6 : ∀ t : Fin cfg0.N, win0_6.index t = ![(grid0.coords t 0).val, 0, 0] := (by decide +kernel : ∀ t : Fin grid0.N, _)
/-- The scale bytes' block at a point. -/
theorem idx7 : ∀ t : Fin cfg0.N, win0_7.index t = ![(grid0.coords t 0).val, 0, 0] := (by decide +kernel : ∀ t : Fin grid0.N, _)

/-- The row that a point handles. -/
def rowOf (t : Fin cfg0.N) : Fin 6 := ⟨t.val, by have h := t.isLt; have := N_0; change t.val < grid0.N at h; omega⟩

/-- The codes' array at the end. -/
theorem final6 (c : Dev nD) (after) (h : ∀ (w : Fin cfg0.W) (u : Fin cfg0.N), (cfg0.win w).flush u = true → (rdat m c).Leaves w u (after w u)) :
    ((rdat m c).withAfter after).arrAt 6 cfg0.N = codes (argsOf m c) := by
  refine Dat.arrAt_eq_of_covers _ 6 _ (by decide +kernel) fun t hf y => ?_
  have e : after 6 t = codesT m c t := Dat.toRRel_leaves (dats m c) (by decide) (h 6 t hf)
  have ht := coords_val t
  blk_simp
  rw [Pipeline.RDat.withAfter_after, e]
  refine (codesT_eq m c t (rowOf t) rfl _).trans ?_
  show (argsOf m c).code _ _ _ = (argsOf m c).code _ _ _
  congr 1
  · apply Fin.ext
    have h0 : (y 0).val < 1 := (y 0).isLt
    blk_simp [idx6 t]
    show t.val = _
    simp only [Matrix.cons_val_zero]
    omega
  · apply Fin.ext
    blk_simp [idx6 t]
  · blk_simp [idx6 t]

/-- The scale bytes' array at the end. -/
theorem final7 (c : Dev nD) (after) (h : ∀ (w : Fin cfg0.W) (u : Fin cfg0.N), (cfg0.win w).flush u = true → (rdat m c).Leaves w u (after w u)) :
    ((rdat m c).withAfter after).arrAt 7 cfg0.N = scales (argsOf m c) := by
  refine Dat.arrAt_eq_of_covers _ 7 _ (by decide +kernel) fun t hf y => ?_
  have e : after 7 t = scalesT m c t := Dat.toRRel_leaves (dats m c) (by decide) (h 7 t hf)
  have ht := coords_val t
  blk_simp
  rw [Pipeline.RDat.withAfter_after, e]
  refine (scalesT_eq m c t (rowOf t) rfl _).trans ?_
  show (argsOf m c).scale _ _ _ = (argsOf m c).scale _ _ _
  congr 1
  · apply Fin.ext
    have h0 : (y 0).val < 1 := (y 0).isLt
    blk_simp [idx7 t]
    show t.val = _
    simp only [Matrix.cons_val_zero]
    omega
  · apply Fin.ext
    blk_simp [idx7 t]
  · blk_simp [idx7 t]

/-- The means' array at the end. -/
theorem final8 (c : Dev nD) (after) (h : ∀ (w : Fin cfg0.W) (u : Fin cfg0.N), (cfg0.win w).flush u = true → (rdat m c).Leaves w u (after w u)) :
    ((rdat m c).withAfter after).arrAt 8 cfg0.N = means (argsOf m c) := by
  refine Dat.arrAt_eq_of_after_last _ 8 t0_5 (by decide +kernel) _ fun j => ?_
  have e : RowsTo (muT m c) t0_5 (after 8 t0_5) := Dat.toRRel_leaves (dats m c) (by decide) (h 8 t0_5 ((flush0_8 t0_5).mpr rfl))
  have hj : (j 0).val < 6 := (j 0).isLt
  rw [Pipeline.RDat.withAfter_after]
  exact (e j (by show (j 0).val ≤ 5; omega)).trans (muT_eq m c _ (j 0) rfl (j 1))

/-- The reciprocal standard deviations' array at the end. -/
theorem final9 (c : Dev nD) (after) (h : ∀ (w : Fin cfg0.W) (u : Fin cfg0.N), (cfg0.win w).flush u = true → (rdat m c).Leaves w u (after w u)) :
    ((rdat m c).withAfter after).arrAt 9 cfg0.N = rstds (argsOf m c) := by
  refine Dat.arrAt_eq_of_after_last _ 9 t0_5 (by decide +kernel) _ fun j => ?_
  have e : RowsTo (rhoT m c) t0_5 (after 9 t0_5) := Dat.toRRel_leaves (dats m c) (by decide) (h 9 t0_5 ((flush0_9 t0_5).mpr rfl))
  have hj : (j 0).val < 6 := (j 0).isLt
  rw [Pipeline.RDat.withAfter_after]
  exact (e j (by show (j 0).val ≤ 5; omega)).trans (rhoT_eq m c _ (j 0) rfl (j 1))

set_option backward.isDefEq.respectTransparency.types false in
/-- The kernel's run: each result array at its value, the arguments unchanged, every semaphore counter zero. -/
theorem run : θ_run defs (onTc (τ := τ) (main (F := Ideal))) (s₀ m ρ) fun r => (∀ c : Dev nD,
      r.2.mem ((c.tc : Thread nD τ).loc main_v2_0) = codes (argsOf m c)
      ∧ r.2.mem ((c.tc : Thread nD τ).loc main_v2_1) = scales (argsOf m c)
      ∧ r.2.mem ((c.tc : Thread nD τ).loc main_v2_2) = means (argsOf m c)
      ∧ r.2.mem ((c.tc : Thread nD τ).loc main_v2_3) = rstds (argsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0 := by
  refine (θ_run defs _ _).mono (fun r hr => ⟨fun c => ?_, hr.2⟩) (run_main m ρ)
  obtain ⟨h, -⟩ := hr
  obtain ⟨after, hL, hA⟩ := Pipeline.RDat.FramePost.exists_exact h c
  exact ⟨(hA 6).trans (final6 m c after hL), (hA 7).trans (final7 m c after hL), (hA 8).trans (final8 m c after hL),
    (hA 9).trans (final9 m c after hL),
    (Pipeline.RDat.FramePost.arr_in h c 1 rfl).trans ((A_eq m c 1).trans (V_main_arg0 m c)),
    (Pipeline.RDat.FramePost.arr_in h c 0 rfl).trans ((A_eq m c 0).trans (V_main_arg1 m c)),
    (Pipeline.RDat.FramePost.arr_in h c 2 rfl).trans ((A_eq m c 2).trans (V_main_arg2 m c)),
    (Pipeline.RDat.FramePost.arr_in h c 3 rfl).trans ((A_eq m c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

end Cert.KernelIdeal.Hand
end
-- ==== Proof.RefStages.lean ====
/-
  The reference's host operations one at a time. `val_<buffer>` is the value an operation writes, as a function of the
  arguments of @main that it depends on; `val_<buffer>_apply` reads it at an index from its operands at an index.
-/
module

public import proofs.«01_k».proof.Proof.Gen.ReferenceIdeal.Frame
public import Idealize.ShloMosaic.Lib.Pipeline.Value
public import Idealize.ShloMosaic.PureOps.Ideal.Laws

@[expose] public section

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F]

-- %0 = stablehlo.convert %arg0 : (tensor<6x256x7168xbf16>) -> tensor<6x256x7168xf32>
def val_main_v0 (x0 : (⟨S6x256x7168, .bf16⟩ : BufTy).Contents (Elt F)) : (⟨S6x256x7168, .f32⟩ : BufTy).Contents (Elt F) :=
  extf .f32 (x0) bitsLt_bf16_f32
theorem val_main_v0_apply (x0 : (⟨S6x256x7168, .bf16⟩ : BufTy).Contents (Elt F)) (i : S6x256x7168.Idx) :
    val_main_v0 (F := F) x0 i = FloatOps.extf .f32 bitsLt_bf16_f32 (x0 i) := rfl

-- %cst = stablehlo.constant dense<0.000000e+00> : tensor<f32>
def val_main_cst : (⟨S_, .f32⟩ : BufTy).Contents (Elt F) :=
  constant S_ .f32 0x00000000#32
theorem val_main_cst_apply (i : S_.Idx) :
    val_main_cst (F := F) i = FloatOps.ofBits .f32 0x00000000#32 := rfl

-- %1 = stablehlo.reduce(%0 init: %cst) applies stablehlo.add across dimensions = [2] : (tensor<6x256x7168xf32>, tensor<f32>) -> tensor<6x256xf32> {
def val_main_v1 (x0 : (⟨S6x256x7168, .bf16⟩ : BufTy).Contents (Elt F)) : (⟨S6x256, .f32⟩ : BufTy).Contents (Elt F) :=
  Host.reduceAdd (val_main_v0 (F := F) x0) (val_main_cst (F := F)) reducesTo_S6x256x7168_S6x256_d2 h_S_
abbrev idx_main_v1 (i : S6x256.Idx) (k : Fin 7168) : S6x256x7168.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v1_apply (x0 : (⟨S6x256x7168, .bf16⟩ : BufTy).Contents (Elt Ideal)) (i : S6x256.Idx) :
    val_main_v1 (F := Ideal) x0 i = (val_main_cst (F := Ideal)) (Shape.Idx.first h_S_) + ∑ k : Fin 7168, (val_main_v0 (F := Ideal) x0) (idx_main_v1 i k) := by
  unfold val_main_v1
  generalize val_main_v0 (F := Ideal) x0 = y0
  simp only [Host.reduceAdd, Ideal.hostReduceAdd_def]
  rw [Ideal.hostReduceAdd_single reducesTo_S6x256x7168_S6x256_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %cst_0 = stablehlo.constant dense<7.168000e+03> : tensor<f32>
def val_main_cst_0 : (⟨S_, .f32⟩ : BufTy).Contents (Elt F) :=
  constant S_ .f32 0x45E00000#32
theorem val_main_cst_0_apply (i : S_.Idx) :
    val_main_cst_0 (F := F) i = FloatOps.ofBits .f32 0x45E00000#32 := rfl

-- %2 = stablehlo.broadcast_in_dim %cst_0, dims = [] : (tensor<f32>) -> tensor<6x256xf32>
def val_main_v2 : (⟨S6x256, .f32⟩ : BufTy).Contents (Elt F) :=
  broadcastInDim S6x256 ![] bcast_S_S6x256 (val_main_cst_0 (F := F))
abbrev idx_main_v2 (i : S6x256.Idx) : S_.Idx := fun a => a.elim0
theorem val_main_v2_apply (i : S6x256.Idx) :
    val_main_v2 (F := F) i = val_main_cst_0 (F := F) (idx_main_v2 i) := by
  unfold val_main_v2
  generalize val_main_cst_0 (F := F) = y
  exact broadcastInDim_apply _ bcast_S_S6x256 y i (idx_main_v2 i) (fun a => a.elim0)

-- %3 = stablehlo.divide %1, %2 : tensor<6x256xf32>
def val_main_v3 (x0 : (⟨S6x256x7168, .bf16⟩ : BufTy).Contents (Elt F)) : (⟨S6x256, .f32⟩ : BufTy).Contents (Elt F) :=
  Host.divf (val_main_v1 (F := F) x0) (val_main_v2 (F := F))
theorem val_main_v3_apply (x0 : (⟨S6x256x7168, .bf16⟩ : BufTy).Contents (Elt F)) (i : S6x256.Idx) :
    val_main_v3 (F := F) x0 i = FloatOps.hostDivf (val_main_v1 (F := F) x0 i) (val_main_v2 (F := F) i) := rfl

-- %4 = stablehlo.broadcast_in_dim %3, dims = [0, 1] : (tensor<6x256xf32>) -> tensor<6x256x1xf32>
def val_main_v4 (x0 : (⟨S6x256x7168, .bf16⟩ : BufTy).Contents (Elt F)) : (⟨S6x256x1, .f32⟩ : BufTy).Contents (Elt F) :=
  broadcastInDim S6x256x1 ![0, 1] bcast_S6x256_S6x256x1_0_1 (val_main_v3 (F := F) x0)
abbrev idx_main_v4 (i : S6x256x1.Idx) : S6x256.Idx := fun a => match a with
  | ⟨0, _⟩ => ⟨(i 0).val, (i 0).isLt⟩
  | ⟨1, _⟩ => ⟨(i 1).val, (i 1).isLt⟩
theorem val_main_v4_apply (x0 : (⟨S6x256x7168, .bf16⟩ : BufTy).Contents (Elt F)) (i : S6x256x1.Idx) :
    val_main_v4 (F := F) x0 i = val_main_v3 (F := F) x0 (idx_main_v4 i) := by
  unfold val_main_v4
  generalize val_main_v3 (F := F) x0 = y
  exact broadcastInDim_apply _ bcast_S6x256_S6x256x1_0_1 y i (idx_main_v4 i) (fun a => match a with
    | ⟨0, _⟩ => by show (i 0).val = if (6 : Nat) = 1 then 0 else (i 0).val; rw [if_neg (by decide)]
    | ⟨1, _⟩ => by show (i 1).val = if (256 : Nat) = 1 then 0 else (i 1).val; rw [if_neg (by decide)])

-- %5 = stablehlo.broadcast_in_dim %4, dims = [0, 1, 2] : (tensor<6x256x1xf32>) -> tensor<6x256x7168xf32>
def val_main_v5 (x0 : (⟨S6x256x7168, .bf16⟩ : BufTy).Contents (Elt F)) : (⟨S6x256x7168, .f32⟩ : BufTy).Contents (Elt F) :=
  broadcastInDim S6x256x7168 ![0, 1, 2] bcast_S6x256x1_S6x256x7168_0_1_2 (val_main_v4 (F := F) x0)
abbrev idx_main_v5 (i : S6x256x7168.Idx) : S6x256x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v5_apply (x0 : (⟨S6x256x7168, .bf16⟩ : BufTy).Contents (Elt F)) (i : S6x256x7168.Idx) :
    val_main_v5 (F := F) x0 i = val_main_v4 (F := F) x0 (idx_main_v5 i) := by
  unfold val_main_v5
  generalize val_main_v4 (F := F) x0 = y
  exact broadcastInDim_apply _ bcast_S6x256x1_S6x256x7168_0_1_2 y i (idx_main_v5 i) (fun a => match a with
    | ⟨0, _⟩ => by show (i 0).val = if (6 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl])

-- %6 = stablehlo.subtract %0, %5 : tensor<6x256x7168xf32>
def val_main_v6 (x0 : (⟨S6x256x7168, .bf16⟩ : BufTy).Contents (Elt F)) : (⟨S6x256x7168, .f32⟩ : BufTy).Contents (Elt F) :=
  subf (val_main_v0 (F := F) x0) (val_main_v5 (F := F) x0)
theorem val_main_v6_apply (x0 : (⟨S6x256x7168, .bf16⟩ : BufTy).Contents (Elt F)) (i : S6x256x7168.Idx) :
    val_main_v6 (F := F) x0 i = FloatOps.subf (val_main_v0 (F := F) x0 i) (val_main_v5 (F := F) x0 i) := rfl

-- %7 = chlo.square %6 : tensor<6x256x7168xf32> -> tensor<6x256x7168xf32>
def val_main_v7 (x0 : (⟨S6x256x7168, .bf16⟩ : BufTy).Contents (Elt F)) : (⟨S6x256x7168, .f32⟩ : BufTy).Contents (Elt F) :=
  mulf (val_main_v6 (F := F) x0) (val_main_v6 (F := F) x0)
theorem val_main_v7_apply (x0 : (⟨S6x256x7168, .bf16⟩ : BufTy).Contents (Elt F)) (i : S6x256x7168.Idx) :
    val_main_v7 (F := F) x0 i = FloatOps.mulf (val_main_v6 (F := F) x0 i) (val_main_v6 (F := F) x0 i) := rfl

-- %cst_1 = stablehlo.constant dense<0.000000e+00> : tensor<f32>
def val_main_cst_1 : (⟨S_, .f32⟩ : BufTy).Contents (Elt F) :=
  constant S_ .f32 0x00000000#32
theorem val_main_cst_1_apply (i : S_.Idx) :
    val_main_cst_1 (F := F) i = FloatOps.ofBits .f32 0x00000000#32 := rfl

-- %8 = stablehlo.reduce(%7 init: %cst_1) applies stablehlo.add across dimensions = [2] : (tensor<6x256x7168xf32>, tensor<f32>) -> tensor<6x256xf32> {
def val_main_v8 (x0 : (⟨S6x256x7168, .bf16⟩ : BufTy).Contents (Elt F)) : (⟨S6x256, .f32⟩ : BufTy).Contents (Elt F) :=
  Host.reduceAdd (val_main_v7 (F := F) x0) (val_main_cst_1 (F := F)) reducesTo_S6x256x7168_S6x256_d2 h_S_
abbrev idx_main_v8 (i : S6x256.Idx) (k : Fin 7168) : S6x256x7168.Idx := fun a => match a with
  | ⟨0, _⟩ => ⟨(i 0).val, (i 0).isLt⟩
  | ⟨1, _⟩ => ⟨(i 1).val, (i 1).isLt⟩
  | ⟨2, _⟩ => ⟨k.val, k.isLt⟩
/-- Stated at `F := Ideal`, where the host's float sum is this sum; at a bit-exact instance it is an opaque function of its operand. -/
theorem val_main_v8_apply (x0 : (⟨S6x256x7168, .bf16⟩ : BufTy).Contents (Elt Ideal)) (i : S6x256.Idx) :
    val_main_v8 (F := Ideal) x0 i = (val_main_cst_1 (F := Ideal)) (Shape.Idx.first h_S_) + ∑ k : Fin 7168, (val_main_v7 (F := Ideal) x0) (idx_main_v8 i k) := by
  unfold val_main_v8
  generalize val_main_v7 (F := Ideal) x0 = y0
  simp only [Host.reduceAdd, Ideal.hostReduceAdd_def]
  rw [Ideal.hostReduceAdd_single reducesTo_S6x256x7168_S6x256_d2 (by decide)]
  refine congrArg (_ + ·) (Finset.sum_congr rfl fun k _ => ?_)
  exact congrArg y0 (funext fun a => Fin.ext (by match a with | ⟨0, _⟩ => rfl | ⟨1, _⟩ => rfl | ⟨2, _⟩ => rfl))

-- %9 = stablehlo.slice %arg1 [0:1] : (tensor<2xf32>) -> tensor<1xf32>
def val_main_v9 (x1 : (⟨S2, .f32⟩ : BufTy).Contents (Elt F)) : (⟨S1, .f32⟩ : BufTy).Contents (Elt F) :=
  extractStridedSlice S1 ![0] (x1) slices_S2_S1_0
set_option backward.proofsInPublic true in
abbrev idx_main_v9 (i : S1.Idx) : S2.Idx := fun a => match a with
  | ⟨0, _⟩ => ⟨(i 0).val, by have h0 : (i 0).val < 1 := (i 0).isLt; show (i 0).val < 2; omega⟩
theorem val_main_v9_apply (x1 : (⟨S2, .f32⟩ : BufTy).Contents (Elt F)) (i : S1.Idx) :
    val_main_v9 (F := F) x1 i = x1 (idx_main_v9 i) := by
  unfold val_main_v9
  exact extractStridedSlice_apply ![0] x1 slices_S2_S1_0 i (idx_main_v9 i) (fun a => match a with
    | ⟨0, _⟩ => by show (i 0).val = 0 + (i 0).val; omega)

-- %10 = stablehlo.reshape %9 : (tensor<1xf32>) -> tensor<f32>
def val_main_v10 (x1 : (⟨S2, .f32⟩ : BufTy).Contents (Elt F)) : (⟨S_, .f32⟩ : BufTy).Contents (Elt F) :=
  shapeCast _ (val_main_v9 (F := F) x1) shapeCasts_S1_S_

-- %11 = stablehlo.slice %arg2 [0:1, 0:6, 0:256] : (tensor<2x6x256xf32>) -> tensor<1x6x256xf32>
def val_main_v11 (x2 : (⟨S2x6x256, .f32⟩ : BufTy).Contents (Elt F)) : (⟨S1x6x256, .f32⟩ : BufTy).Contents (Elt F) :=
  extractStridedSlice S1x6x256 ![0, 0, 0] (x2) slices_S2x6x256_S1x6x256_0_0_0
set_option backward.proofsInPublic true in
abbrev idx_main_v11 (i : S1x6x256.Idx) : S2x6x256.Idx := fun a => match a with
  | ⟨0, _⟩ => ⟨(i 0).val, by have h0 : (i 0).val < 1 := (i 0).isLt; show (i 0).val < 2; omega⟩
  | ⟨1, _⟩ => ⟨(i 1).val, (i 1).isLt⟩
  | ⟨2, _⟩ => ⟨(i 2).val, (i 2).isLt⟩
theorem val_main_v11_apply (x2 : (⟨S2x6x256, .f32⟩ : BufTy).Contents (Elt F)) (i : S1x6x256.Idx) :
    val_main_v11 (F := F) x2 i = x2 (idx_main_v11 i) := by
  unfold val_main_v11
  exact extractStridedSlice_apply ![0, 0, 0] x2 slices_S2x6x256_S1x6x256_0_0_0 i (idx_main_v11 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %12 = stablehlo.reshape %11 : (tensor<1x6x256xf32>) -> tensor<6x256xf32>
def val_main_v12 (x2 : (⟨S2x6x256, .f32⟩ : BufTy).Contents (Elt F)) : (⟨S6x256, .f32⟩ : BufTy).Contents (Elt F) :=
  shapeCast _ (val_main_v11 (F := F) x2) shapeCasts_S1x6x256_S6x256
set_option backward.proofsInPublic true in
abbrev idx_main_v12 (i : S6x256.Idx) : S1x6x256.Idx := fun a => match a with
  | ⟨0, _⟩ => ⟨0, Nat.one_pos⟩
  | ⟨1, _⟩ => ⟨((i 0).val * 256 + (i 1).val) / 256 % 6, by have h0 : (i 0).val < 6 := (i 0).isLt; have h1 : (i 1).val < 256 := (i 1).isLt; show ((i 0).val * 256 + (i 1).val) / 256 % 6 < 6; omega⟩
  | ⟨2, _⟩ => ⟨((i 0).val * 256 + (i 1).val) % 256, by have h0 : (i 0).val < 6 := (i 0).isLt; have h1 : (i 1).val < 256 := (i 1).isLt; show ((i 0).val * 256 + (i 1).val) % 256 < 256; omega⟩
theorem val_main_v12_apply (x2 : (⟨S2x6x256, .f32⟩ : BufTy).Contents (Elt F)) (i : S6x256.Idx) :
    val_main_v12 (F := F) x2 i = val_main_v11 (F := F) x2 (idx_main_v12 i) := by
  unfold val_main_v12
  generalize val_main_v11 (F := F) x2 = y
  exact shapeCast_apply y shapeCasts_S1x6x256_S6x256 i (idx_main_v12 i)
    (by rewrite [Shape.rowMajor_val_three, Shape.rowMajor_val_two]; have h0 : (i 0).val < 6 := (i 0).isLt; have h1 : (i 1).val < 256 := (i 1).isLt; show (0 * 6 + ((i 0).val * 256 + (i 1).val) / 256 % 6) * 256 + ((i 0).val * 256 + (i 1).val) % 256 = (i 0).val * 256 + (i 1).val; omega)

-- %13 = stablehlo.slice %arg3 [0:1, 0:6, 0:256] : (tensor<2x6x256xf32>) -> tensor<1x6x256xf32>
def val_main_v13 (x3 : (⟨S2x6x256, .f32⟩ : BufTy).Contents (Elt F)) : (⟨S1x6x256, .f32⟩ : BufTy).Contents (Elt F) :=
  extractStridedSlice S1x6x256 ![0, 0, 0] (x3) slices_S2x6x256_S1x6x256_0_0_0
set_option backward.proofsInPublic true in
abbrev idx_main_v13 (i : S1x6x256.Idx) : S2x6x256.Idx := fun a => match a with
  | ⟨0, _⟩ => ⟨(i 0).val, by have h0 : (i 0).val < 1 := (i 0).isLt; show (i 0).val < 2; omega⟩
  | ⟨1, _⟩ => ⟨(i 1).val, (i 1).isLt⟩
  | ⟨2, _⟩ => ⟨(i 2).val, (i 2).isLt⟩
theorem val_main_v13_apply (x3 : (⟨S2x6x256, .f32⟩ : BufTy).Contents (Elt F)) (i : S1x6x256.Idx) :
    val_main_v13 (F := F) x3 i = x3 (idx_main_v13 i) := by
  unfold val_main_v13
  exact extractStridedSlice_apply ![0, 0, 0] x3 slices_S2x6x256_S1x6x256_0_0_0 i (idx_main_v13 i) (fun a => match a with
    | ⟨0, _⟩ => by show (i 0).val = 0 + (i 0).val; omega
    | ⟨1, _⟩ => by show (i 1).val = 0 + (i 1).val; omega
    | ⟨2, _⟩ => by show (i 2).val = 0 + (i 2).val; omega)

-- %14 = stablehlo.reshape %13 : (tensor<1x6x256xf32>) -> tensor<6x256xf32>
def val_main_v14 (x3 : (⟨S2x6x256, .f32⟩ : BufTy).Contents (Elt F)) : (⟨S6x256, .f32⟩ : BufTy).Contents (Elt F) :=
  shapeCast _ (val_main_v13 (F := F) x3) shapeCasts_S1x6x256_S6x256
set_option backward.proofsInPublic true in
abbrev idx_main_v14 (i : S6x256.Idx) : S1x6x256.Idx := fun a => match a with
  | ⟨0, _⟩ => ⟨0, Nat.one_pos⟩
  | ⟨1, _⟩ => ⟨((i 0).val * 256 + (i 1).val) / 256 % 6, by have h0 : (i 0).val < 6 := (i 0).isLt; have h1 : (i 1).val < 256 := (i 1).isLt; show ((i 0).val * 256 + (i 1).val) / 256 % 6 < 6; omega⟩
  | ⟨2, _⟩ => ⟨((i 0).val * 256 + (i 1).val) % 256, by have h0 : (i 0).val < 6 := (i 0).isLt; have h1 : (i 1).val < 256 := (i 1).isLt; show ((i 0).val * 256 + (i 1).val) % 256 < 256; omega⟩
theorem val_main_v14_apply (x3 : (⟨S2x6x256, .f32⟩ : BufTy).Contents (Elt F)) (i : S6x256.Idx) :
    val_main_v14 (F := F) x3 i = val_main_v13 (F := F) x3 (idx_main_v14 i) := by
  unfold val_main_v14
  generalize val_main_v13 (F := F) x3 = y
  exact shapeCast_apply y shapeCasts_S1x6x256_S6x256 i (idx_main_v14 i)
    (by rewrite [Shape.rowMajor_val_three, Shape.rowMajor_val_two]; have h0 : (i 0).val < 6 := (i 0).isLt; have h1 : (i 1).val < 256 := (i 1).isLt; show (0 * 6 + ((i 0).val * 256 + (i 1).val) / 256 % 6) * 256 + ((i 0).val * 256 + (i 1).val) % 256 = (i 0).val * 256 + (i 1).val; omega)

-- %15 = stablehlo.slice %arg1 [1:2] : (tensor<2xf32>) -> tensor<1xf32>
def val_main_v15 (x1 : (⟨S2, .f32⟩ : BufTy).Contents (Elt F)) : (⟨S1, .f32⟩ : BufTy).Contents (Elt F) :=
  extractStridedSlice S1 ![1] (x1) slices_S2_S1_1
set_option backward.proofsInPublic true in
abbrev idx_main_v15 (i : S1.Idx) : S2.Idx := fun a => match a with
  | ⟨0, _⟩ => ⟨1 + (i 0).val, by have h0 : (i 0).val < 1 := (i 0).isLt; show 1 + (i 0).val < 2; omega⟩
theorem val_main_v15_apply (x1 : (⟨S2, .f32⟩ : BufTy).Contents (Elt F)) (i : S1.Idx) :
    val_main_v15 (F := F) x1 i = x1 (idx_main_v15 i) := by
  unfold val_main_v15
  exact extractStridedSlice_apply ![1] x1 slices_S2_S1_1 i (idx_main_v15 i) (fun a => match a with
    | ⟨0, _⟩ => by show 1 + (i 0).val = 1 + (i 0).val; omega)

-- %16 = stablehlo.reshape %15 : (tensor<1xf32>) -> tensor<f32>
def val_main_v16 (x1 : (⟨S2, .f32⟩ : BufTy).Contents (Elt F)) : (⟨S_, .f32⟩ : BufTy).Contents (Elt F) :=
  shapeCast _ (val_main_v15 (F := F) x1) shapeCasts_S1_S_

-- %17 = stablehlo.slice %arg2 [1:2, 0:6, 0:256] : (tensor<2x6x256xf32>) -> tensor<1x6x256xf32>
def val_main_v17 (x2 : (⟨S2x6x256, .f32⟩ : BufTy).Contents (Elt F)) : (⟨S1x6x256, .f32⟩ : BufTy).Contents (Elt F) :=
  extractStridedSlice S1x6x256 ![1, 0, 0] (x2) slices_S2x6x256_S1x6x256_1_0_0
set_option backward.proofsInPublic true in
abbrev idx_main_v17 (i : S1x6x256.Idx) : S2x6x256.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
  | ⟨2, _⟩ => ⟨(i 2).val, (i 2).isLt⟩
theorem val_main_v17_apply (x2 : (⟨S2x6x256, .f32⟩ : BufTy).Contents (Elt F)) (i : S1x6x256.Idx) :
    val_main_v17 (F := F) x2 i = x2 (idx_main_v17 i) := by
  unfold val_main_v17
  exact extractStridedSlice_apply ![1, 0, 0] x2 slices_S2x6x256_S1x6x256_1_0_0 i (idx_main_v17 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

-- %18 = stablehlo.reshape %17 : (tensor<1x6x256xf32>) -> tensor<6x256xf32>
def val_main_v18 (x2 : (⟨S2x6x256, .f32⟩ : BufTy).Contents (Elt F)) : (⟨S6x256, .f32⟩ : BufTy).Contents (Elt F) :=
  shapeCast _ (val_main_v17 (F := F) x2) shapeCasts_S1x6x256_S6x256
set_option backward.proofsInPublic true in
abbrev idx_main_v18 (i : S6x256.Idx) : S1x6x256.Idx := fun a => match a with
  | ⟨0, _⟩ => ⟨0, Nat.one_pos⟩
  | ⟨1, _⟩ => ⟨((i 0).val * 256 + (i 1).val) / 256 % 6, by have h0 : (i 0).val < 6 := (i 0).isLt; have h1 : (i 1).val < 256 := (i 1).isLt; show ((i 0).val * 256 + (i 1).val) / 256 % 6 < 6; omega⟩
  | ⟨2, _⟩ => ⟨((i 0).val * 256 + (i 1).val) % 256, by have h0 : (i 0).val < 6 := (i 0).isLt; have h1 : (i 1).val < 256 := (i 1).isLt; show ((i 0).val * 256 + (i 1).val) % 256 < 256; omega⟩
theorem val_main_v18_apply (x2 : (⟨S2x6x256, .f32⟩ : BufTy).Contents (Elt F)) (i : S6x256.Idx) :
    val_main_v18 (F := F) x2 i = val_main_v17 (F := F) x2 (idx_main_v18 i) := by
  unfold val_main_v18
  generalize val_main_v17 (F := F) x2 = y
  exact shapeCast_apply y shapeCasts_S1x6x256_S6x256 i (idx_main_v18 i)
    (by rewrite [Shape.rowMajor_val_three, Shape.rowMajor_val_two]; have h0 : (i 0).val < 6 := (i 0).isLt; have h1 : (i 1).val < 256 := (i 1).isLt; show (0 * 6 + ((i 0).val * 256 + (i 1).val) / 256 % 6) * 256 + ((i 0).val * 256 + (i 1).val) % 256 = (i 0).val * 256 + (i 1).val; omega)

-- %19 = stablehlo.slice %arg3 [1:2, 0:6, 0:256] : (tensor<2x6x256xf32>) -> tensor<1x6x256xf32>
def val_main_v19 (x3 : (⟨S2x6x256, .f32⟩ : BufTy).Contents (Elt F)) : (⟨S1x6x256, .f32⟩ : BufTy).Contents (Elt F) :=
  extractStridedSlice S1x6x256 ![1, 0, 0] (x3) slices_S2x6x256_S1x6x256_1_0_0
set_option backward.proofsInPublic true in
abbrev idx_main_v19 (i : S1x6x256.Idx) : S2x6x256.Idx := fun a => match a with
  | ⟨0, _⟩ => ⟨1 + (i 0).val, by have h0 : (i 0).val < 1 := (i 0).isLt; show 1 + (i 0).val < 2; omega⟩
  | ⟨1, _⟩ => ⟨(i 1).val, (i 1).isLt⟩
  | ⟨2, _⟩ => ⟨(i 2).val, (i 2).isLt⟩
theorem val_main_v19_apply (x3 : (⟨S2x6x256, .f32⟩ : BufTy).Contents (Elt F)) (i : S1x6x256.Idx) :
    val_main_v19 (F := F) x3 i = x3 (idx_main_v19 i) := by
  unfold val_main_v19
  exact extractStridedSlice_apply ![1, 0, 0] x3 slices_S2x6x256_S1x6x256_1_0_0 i (idx_main_v19 i) (fun a => match a with
    | ⟨0, _⟩ => by show 1 + (i 0).val = 1 + (i 0).val; omega
    | ⟨1, _⟩ => by show (i 1).val = 0 + (i 1).val; omega
    | ⟨2, _⟩ => by show (i 2).val = 0 + (i 2).val; omega)

-- %20 = stablehlo.reshape %19 : (tensor<1x6x256xf32>) -> tensor<6x256xf32>
def val_main_v20 (x3 : (⟨S2x6x256, .f32⟩ : BufTy).Contents (Elt F)) : (⟨S6x256, .f32⟩ : BufTy).Contents (Elt F) :=
  shapeCast _ (val_main_v19 (F := F) x3) shapeCasts_S1x6x256_S6x256
set_option backward.proofsInPublic true in
abbrev idx_main_v20 (i : S6x256.Idx) : S1x6x256.Idx := fun a => match a with
  | ⟨0, _⟩ => ⟨0, Nat.one_pos⟩
  | ⟨1, _⟩ => ⟨((i 0).val * 256 + (i 1).val) / 256 % 6, by have h0 : (i 0).val < 6 := (i 0).isLt; have h1 : (i 1).val < 256 := (i 1).isLt; show ((i 0).val * 256 + (i 1).val) / 256 % 6 < 6; omega⟩
  | ⟨2, _⟩ => ⟨((i 0).val * 256 + (i 1).val) % 256, by have h0 : (i 0).val < 6 := (i 0).isLt; have h1 : (i 1).val < 256 := (i 1).isLt; show ((i 0).val * 256 + (i 1).val) % 256 < 256; omega⟩
theorem val_main_v20_apply (x3 : (⟨S2x6x256, .f32⟩ : BufTy).Contents (Elt F)) (i : S6x256.Idx) :
    val_main_v20 (F := F) x3 i = val_main_v19 (F := F) x3 (idx_main_v20 i) := by
  unfold val_main_v20
  generalize val_main_v19 (F := F) x3 = y
  exact shapeCast_apply y shapeCasts_S1x6x256_S6x256 i (idx_main_v20 i)
    (by rewrite [Shape.rowMajor_val_three, Shape.rowMajor_val_two]; have h0 : (i 0).val < 6 := (i 0).isLt; have h1 : (i 1).val < 256 := (i 1).isLt; show (0 * 6 + ((i 0).val * 256 + (i 1).val) / 256 % 6) * 256 + ((i 0).val * 256 + (i 1).val) % 256 = (i 0).val * 256 + (i 1).val; omega)

-- %cst_2 = stablehlo.constant dense<7.168000e+03> : tensor<f32>
def val_main_cst_2 : (⟨S_, .f32⟩ : BufTy).Contents (Elt F) :=
  constant S_ .f32 0x45E00000#32
theorem val_main_cst_2_apply (i : S_.Idx) :
    val_main_cst_2 (F := F) i = FloatOps.ofBits .f32 0x45E00000#32 := rfl

-- %21 = stablehlo.add %10, %cst_2 : tensor<f32>
def val_main_v21 (x1 : (⟨S2, .f32⟩ : BufTy).Contents (Elt F)) : (⟨S_, .f32⟩ : BufTy).Contents (Elt F) :=
  addf (val_main_v10 (F := F) x1) (val_main_cst_2 (F := F))
theorem val_main_v21_apply (x1 : (⟨S2, .f32⟩ : BufTy).Contents (Elt F)) (i : S_.Idx) :
    val_main_v21 (F := F) x1 i = FloatOps.addf (val_main_v10 (F := F) x1 i) (val_main_cst_2 (F := F) i) := rfl

-- %22 = stablehlo.subtract %3, %12 : tensor<6x256xf32>
def val_main_v22 (x0 : (⟨S6x256x7168, .bf16⟩ : BufTy).Contents (Elt F)) (x2 : (⟨S2x6x256, .f32⟩ : BufTy).Contents (Elt F)) : (⟨S6x256, .f32⟩ : BufTy).Contents (Elt F) :=
  subf (val_main_v3 (F := F) x0) (val_main_v12 (F := F) x2)
theorem val_main_v22_apply (x0 : (⟨S6x256x7168, .bf16⟩ : BufTy).Contents (Elt F)) (x2 : (⟨S2x6x256, .f32⟩ : BufTy).Contents (Elt F)) (i : S6x256.Idx) :
    val_main_v22 (F := F) x0 x2 i = FloatOps.subf (val_main_v3 (F := F) x0 i) (val_main_v12 (F := F) x2 i) := rfl

-- %cst_3 = stablehlo.constant dense<7.168000e+03> : tensor<f32>
def val_main_cst_3 : (⟨S_, .f32⟩ : BufTy).Contents (Elt F) :=
  constant S_ .f32 0x45E00000#32
theorem val_main_cst_3_apply (i : S_.Idx) :
    val_main_cst_3 (F := F) i = FloatOps.ofBits .f32 0x45E00000#32 := rfl

-- %23 = stablehlo.divide %cst_3, %21 : tensor<f32>
def val_main_v23 (x1 : (⟨S2, .f32⟩ : BufTy).Contents (Elt F)) : (⟨S_, .f32⟩ : BufTy).Contents (Elt F) :=
  Host.divf (val_main_cst_3 (F := F)) (val_main_v21 (F := F) x1)
theorem val_main_v23_apply (x1 : (⟨S2, .f32⟩ : BufTy).Contents (Elt F)) (i : S_.Idx) :
    val_main_v23 (F := F) x1 i = FloatOps.hostDivf (val_main_cst_3 (F := F) i) (val_main_v21 (F := F) x1 i) := rfl

-- %24 = stablehlo.broadcast_in_dim %23, dims = [] : (tensor<f32>) -> tensor<6x256xf32>
def val_main_v24 (x1 : (⟨S2, .f32⟩ : BufTy).Contents (Elt F)) : (⟨S6x256, .f32⟩ : BufTy).Contents (Elt F) :=
  broadcastInDim S6x256 ![] bcast_S_S6x256 (val_main_v23 (F := F) x1)
abbrev idx_main_v24 (i : S6x256.Idx) : S_.Idx := fun a => a.elim0
theorem val_main_v24_apply (x1 : (⟨S2, .f32⟩ : BufTy).Contents (Elt F)) (i : S6x256.Idx) :
    val_main_v24 (F := F) x1 i = val_main_v23 (F := F) x1 (idx_main_v24 i) := by
  unfold val_main_v24
  generalize val_main_v23 (F := F) x1 = y
  exact broadcastInDim_apply _ bcast_S_S6x256 y i (idx_main_v24 i) (fun a => a.elim0)

-- %25 = stablehlo.multiply %22, %24 : tensor<6x256xf32>
def val_main_v25 (x0 : (⟨S6x256x7168, .bf16⟩ : BufTy).Contents (Elt F)) (x1 : (⟨S2, .f32⟩ : BufTy).Contents (Elt F)) (x2 : (⟨S2x6x256, .f32⟩ : BufTy).Contents (Elt F)) : (⟨S6x256, .f32⟩ : BufTy).Contents (Elt F) :=
  mulf (val_main_v22 (F := F) x0 x2) (val_main_v24 (F := F) x1)
theorem val_main_v25_apply (x0 : (⟨S6x256x7168, .bf16⟩ : BufTy).Contents (Elt F)) (x1 : (⟨S2, .f32⟩ : BufTy).Contents (Elt F)) (x2 : (⟨S2x6x256, .f32⟩ : BufTy).Contents (Elt F)) (i : S6x256.Idx) :
    val_main_v25 (F := F) x0 x1 x2 i = FloatOps.mulf (val_main_v22 (F := F) x0 x2 i) (val_main_v24 (F := F) x1 i) := rfl

-- %26 = stablehlo.add %12, %25 : tensor<6x256xf32>
def val_main_v26 (x0 : (⟨S6x256x7168, .bf16⟩ : BufTy).Contents (Elt F)) (x1 : (⟨S2, .f32⟩ : BufTy).Contents (Elt F)) (x2 : (⟨S2x6x256, .f32⟩ : BufTy).Contents (Elt F)) : (⟨S6x256, .f32⟩ : BufTy).Contents (Elt F) :=
  addf (val_main_v12 (F := F) x2) (val_main_v25 (F := F) x0 x1 x2)
theorem val_main_v26_apply (x0 : (⟨S6x256x7168, .bf16⟩ : BufTy).Contents (Elt F)) (x1 : (⟨S2, .f32⟩ : BufTy).Contents (Elt F)) (x2 : (⟨S2x6x256, .f32⟩ : BufTy).Contents (Elt F)) (i : S6x256.Idx) :
    val_main_v26 (F := F) x0 x1 x2 i = FloatOps.addf (val_main_v12 (F := F) x2 i) (val_main_v25 (F := F) x0 x1 x2 i) := rfl

-- %27 = stablehlo.add %14, %8 : tensor<6x256xf32>
def val_main_v27 (x0 : (⟨S6x256x7168, .bf16⟩ : BufTy).Contents (Elt F)) (x3 : (⟨S2x6x256, .f32⟩ : BufTy).Contents (Elt F)) : (⟨S6x256, .f32⟩ : BufTy).Contents (Elt F) :=
  addf (val_main_v14 (F := F) x3) (val_main_v8 (F := F) x0)
theorem val_main_v27_apply (x0 : (⟨S6x256x7168, .bf16⟩ : BufTy).Contents (Elt F)) (x3 : (⟨S2x6x256, .f32⟩ : BufTy).Contents (Elt F)) (i : S6x256.Idx) :
    val_main_v27 (F := F) x0 x3 i = FloatOps.addf (val_main_v14 (F := F) x3 i) (val_main_v8 (F := F) x0 i) := rfl

-- %28 = stablehlo.multiply %22, %22 : tensor<6x256xf32>
def val_main_v28 (x0 : (⟨S6x256x7168, .bf16⟩ : BufTy).Contents (Elt F)) (x2 : (⟨S2x6x256, .f32⟩ : BufTy).Contents (Elt F)) : (⟨S6x256, .f32⟩ : BufTy).Contents (Elt F) :=
  mulf (val_main_v22 (F := F) x0 x2) (val_main_v22 (F := F) x0 x2)
theorem val_main_v28_apply (x0 : (⟨S6x256x7168, .bf16⟩ : BufTy).Contents (Elt F)) (x2 : (⟨S2x6x256, .f32⟩ : BufTy).Contents (Elt F)) (i : S6x256.Idx) :
    val_main_v28 (F := F) x0 x2 i = FloatOps.mulf (val_main_v22 (F := F) x0 x2 i) (val_main_v22 (F := F) x0 x2 i) := rfl

-- %cst_4 = stablehlo.constant dense<7.168000e+03> : tensor<f32>
def val_main_cst_4 : (⟨S_, .f32⟩ : BufTy).Contents (Elt F) :=
  constant S_ .f32 0x45E00000#32
theorem val_main_cst_4_apply (i : S_.Idx) :
    val_main_cst_4 (F := F) i = FloatOps.ofBits .f32 0x45E00000#32 := rfl

-- %29 = stablehlo.multiply %10, %cst_4 : tensor<f32>
def val_main_v29 (x1 : (⟨S2, .f32⟩ : BufTy).Contents (Elt F)) : (⟨S_, .f32⟩ : BufTy).Contents (Elt F) :=
  mulf (val_main_v10 (F := F) x1) (val_main_cst_4 (F := F))
theorem val_main_v29_apply (x1 : (⟨S2, .f32⟩ : BufTy).Contents (Elt F)) (i : S_.Idx) :
    val_main_v29 (F := F) x1 i = FloatOps.mulf (val_main_v10 (F := F) x1 i) (val_main_cst_4 (F := F) i) := rfl

-- %30 = stablehlo.divide %29, %21 : tensor<f32>
def val_main_v30 (x1 : (⟨S2, .f32⟩ : BufTy).Contents (Elt F)) : (⟨S_, .f32⟩ : BufTy).Contents (Elt F) :=
  Host.divf (val_main_v29 (F := F) x1) (val_main_v21 (F := F) x1)
theorem val_main_v30_apply (x1 : (⟨S2, .f32⟩ : BufTy).Contents (Elt F)) (i : S_.Idx) :
    val_main_v30 (F := F) x1 i = FloatOps.hostDivf (val_main_v29 (F := F) x1 i) (val_main_v21 (F := F) x1 i) := rfl

-- %31 = stablehlo.broadcast_in_dim %30, dims = [] : (tensor<f32>) -> tensor<6x256xf32>
def val_main_v31 (x1 : (⟨S2, .f32⟩ : BufTy).Contents (Elt F)) : (⟨S6x256, .f32⟩ : BufTy).Contents (Elt F) :=
  broadcastInDim S6x256 ![] bcast_S_S6x256 (val_main_v30 (F := F) x1)
abbrev idx_main_v31 (i : S6x256.Idx) : S_.Idx := fun a => a.elim0
theorem val_main_v31_apply (x1 : (⟨S2, .f32⟩ : BufTy).Contents (Elt F)) (i : S6x256.Idx) :
    val_main_v31 (F := F) x1 i = val_main_v30 (F := F) x1 (idx_main_v31 i) := by
  unfold val_main_v31
  generalize val_main_v30 (F := F) x1 = y
  exact broadcastInDim_apply _ bcast_S_S6x256 y i (idx_main_v31 i) (fun a => a.elim0)

-- %32 = stablehlo.multiply %28, %31 : tensor<6x256xf32>
def val_main_v32 (x0 : (⟨S6x256x7168, .bf16⟩ : BufTy).Contents (Elt F)) (x1 : (⟨S2, .f32⟩ : BufTy).Contents (Elt F)) (x2 : (⟨S2x6x256, .f32⟩ : BufTy).Contents (Elt F)) : (⟨S6x256, .f32⟩ : BufTy).Contents (Elt F) :=
  mulf (val_main_v28 (F := F) x0 x2) (val_main_v31 (F := F) x1)
theorem val_main_v32_apply (x0 : (⟨S6x256x7168, .bf16⟩ : BufTy).Contents (Elt F)) (x1 : (⟨S2, .f32⟩ : BufTy).Contents (Elt F)) (x2 : (⟨S2x6x256, .f32⟩ : BufTy).Contents (Elt F)) (i : S6x256.Idx) :
    val_main_v32 (F := F) x0 x1 x2 i = FloatOps.mulf (val_main_v28 (F := F) x0 x2 i) (val_main_v31 (F := F) x1 i) := rfl

-- %33 = stablehlo.add %27, %32 : tensor<6x256xf32>
def val_main_v33 (x0 : (⟨S6x256x7168, .bf16⟩ : BufTy).Contents (Elt F)) (x1 : (⟨S2, .f32⟩ : BufTy).Contents (Elt F)) (x2 x3 : (⟨S2x6x256, .f32⟩ : BufTy).Contents (Elt F)) : (⟨S6x256, .f32⟩ : BufTy).Contents (Elt F) :=
  addf (val_main_v27 (F := F) x0 x3) (val_main_v32 (F := F) x0 x1 x2)
theorem val_main_v33_apply (x0 : (⟨S6x256x7168, .bf16⟩ : BufTy).Contents (Elt F)) (x1 : (⟨S2, .f32⟩ : BufTy).Contents (Elt F)) (x2 x3 : (⟨S2x6x256, .f32⟩ : BufTy).Contents (Elt F)) (i : S6x256.Idx) :
    val_main_v33 (F := F) x0 x1 x2 x3 i = FloatOps.addf (val_main_v27 (F := F) x0 x3 i) (val_main_v32 (F := F) x0 x1 x2 i) := rfl

-- %34 = stablehlo.add %21, %16 : tensor<f32>
def val_main_v34 (x1 : (⟨S2, .f32⟩ : BufTy).Contents (Elt F)) : (⟨S_, .f32⟩ : BufTy).Contents (Elt F) :=
  addf (val_main_v21 (F := F) x1) (val_main_v16 (F := F) x1)
theorem val_main_v34_apply (x1 : (⟨S2, .f32⟩ : BufTy).Contents (Elt F)) (i : S_.Idx) :
    val_main_v34 (F := F) x1 i = FloatOps.addf (val_main_v21 (F := F) x1 i) (val_main_v16 (F := F) x1 i) := rfl

-- %35 = stablehlo.subtract %18, %26 : tensor<6x256xf32>
def val_main_v35 (x0 : (⟨S6x256x7168, .bf16⟩ : BufTy).Contents (Elt F)) (x1 : (⟨S2, .f32⟩ : BufTy).Contents (Elt F)) (x2 : (⟨S2x6x256, .f32⟩ : BufTy).Contents (Elt F)) : (⟨S6x256, .f32⟩ : BufTy).Contents (Elt F) :=
  subf (val_main_v18 (F := F) x2) (val_main_v26 (F := F) x0 x1 x2)
theorem val_main_v35_apply (x0 : (⟨S6x256x7168, .bf16⟩ : BufTy).Contents (Elt F)) (x1 : (⟨S2, .f32⟩ : BufTy).Contents (Elt F)) (x2 : (⟨S2x6x256, .f32⟩ : BufTy).Contents (Elt F)) (i : S6x256.Idx) :
    val_main_v35 (F := F) x0 x1 x2 i = FloatOps.subf (val_main_v18 (F := F) x2 i) (val_main_v26 (F := F) x0 x1 x2 i) := rfl

-- %36 = stablehlo.divide %16, %34 : tensor<f32>
def val_main_v36 (x1 : (⟨S2, .f32⟩ : BufTy).Contents (Elt F)) : (⟨S_, .f32⟩ : BufTy).Contents (Elt F) :=
  Host.divf (val_main_v16 (F := F) x1) (val_main_v34 (F := F) x1)
theorem val_main_v36_apply (x1 : (⟨S2, .f32⟩ : BufTy).Contents (Elt F)) (i : S_.Idx) :
    val_main_v36 (F := F) x1 i = FloatOps.hostDivf (val_main_v16 (F := F) x1 i) (val_main_v34 (F := F) x1 i) := rfl

-- %37 = stablehlo.broadcast_in_dim %36, dims = [] : (tensor<f32>) -> tensor<6x256xf32>
def val_main_v37 (x1 : (⟨S2, .f32⟩ : BufTy).Contents (Elt F)) : (⟨S6x256, .f32⟩ : BufTy).Contents (Elt F) :=
  broadcastInDim S6x256 ![] bcast_S_S6x256 (val_main_v36 (F := F) x1)
abbrev idx_main_v37 (i : S6x256.Idx) : S_.Idx := fun a => a.elim0
theorem val_main_v37_apply (x1 : (⟨S2, .f32⟩ : BufTy).Contents (Elt F)) (i : S6x256.Idx) :
    val_main_v37 (F := F) x1 i = val_main_v36 (F := F) x1 (idx_main_v37 i) := by
  unfold val_main_v37
  generalize val_main_v36 (F := F) x1 = y
  exact broadcastInDim_apply _ bcast_S_S6x256 y i (idx_main_v37 i) (fun a => a.elim0)

-- %38 = stablehlo.multiply %35, %37 : tensor<6x256xf32>
def val_main_v38 (x0 : (⟨S6x256x7168, .bf16⟩ : BufTy).Contents (Elt F)) (x1 : (⟨S2, .f32⟩ : BufTy).Contents (Elt F)) (x2 : (⟨S2x6x256, .f32⟩ : BufTy).Contents (Elt F)) : (⟨S6x256, .f32⟩ : BufTy).Contents (Elt F) :=
  mulf (val_main_v35 (F := F) x0 x1 x2) (val_main_v37 (F := F) x1)
theorem val_main_v38_apply (x0 : (⟨S6x256x7168, .bf16⟩ : BufTy).Contents (Elt F)) (x1 : (⟨S2, .f32⟩ : BufTy).Contents (Elt F)) (x2 : (⟨S2x6x256, .f32⟩ : BufTy).Contents (Elt F)) (i : S6x256.Idx) :
    val_main_v38 (F := F) x0 x1 x2 i = FloatOps.mulf (val_main_v35 (F := F) x0 x1 x2 i) (val_main_v37 (F := F) x1 i) := rfl

-- %39 = stablehlo.add %26, %38 : tensor<6x256xf32>
def val_main_v39 (x0 : (⟨S6x256x7168, .bf16⟩ : BufTy).Contents (Elt F)) (x1 : (⟨S2, .f32⟩ : BufTy).Contents (Elt F)) (x2 : (⟨S2x6x256, .f32⟩ : BufTy).Contents (Elt F)) : (⟨S6x256, .f32⟩ : BufTy).Contents (Elt F) :=
  addf (val_main_v26 (F := F) x0 x1 x2) (val_main_v38 (F := F) x0 x1 x2)
theorem val_main_v39_apply (x0 : (⟨S6x256x7168, .bf16⟩ : BufTy).Contents (Elt F)) (x1 : (⟨S2, .f32⟩ : BufTy).Contents (Elt F)) (x2 : (⟨S2x6x256, .f32⟩ : BufTy).Contents (Elt F)) (i : S6x256.Idx) :
    val_main_v39 (F := F) x0 x1 x2 i = FloatOps.addf (val_main_v26 (F := F) x0 x1 x2 i) (val_main_v38 (F := F) x0 x1 x2 i) := rfl

-- %40 = stablehlo.add %33, %20 : tensor<6x256xf32>
def val_main_v40 (x0 : (⟨S6x256x7168, .bf16⟩ : BufTy).Contents (Elt F)) (x1 : (⟨S2, .f32⟩ : BufTy).Contents (Elt F)) (x2 x3 : (⟨S2x6x256, .f32⟩ : BufTy).Contents (Elt F)) : (⟨S6x256, .f32⟩ : BufTy).Contents (Elt F) :=
  addf (val_main_v33 (F := F) x0 x1 x2 x3) (val_main_v20 (F := F) x3)
theorem val_main_v40_apply (x0 : (⟨S6x256x7168, .bf16⟩ : BufTy).Contents (Elt F)) (x1 : (⟨S2, .f32⟩ : BufTy).Contents (Elt F)) (x2 x3 : (⟨S2x6x256, .f32⟩ : BufTy).Contents (Elt F)) (i : S6x256.Idx) :
    val_main_v40 (F := F) x0 x1 x2 x3 i = FloatOps.addf (val_main_v33 (F := F) x0 x1 x2 x3 i) (val_main_v20 (F := F) x3 i) := rfl

-- %41 = stablehlo.multiply %35, %35 : tensor<6x256xf32>
def val_main_v41 (x0 : (⟨S6x256x7168, .bf16⟩ : BufTy).Contents (Elt F)) (x1 : (⟨S2, .f32⟩ : BufTy).Contents (Elt F)) (x2 : (⟨S2x6x256, .f32⟩ : BufTy).Contents (Elt F)) : (⟨S6x256, .f32⟩ : BufTy).Contents (Elt F) :=
  mulf (val_main_v35 (F := F) x0 x1 x2) (val_main_v35 (F := F) x0 x1 x2)
theorem val_main_v41_apply (x0 : (⟨S6x256x7168, .bf16⟩ : BufTy).Contents (Elt F)) (x1 : (⟨S2, .f32⟩ : BufTy).Contents (Elt F)) (x2 : (⟨S2x6x256, .f32⟩ : BufTy).Contents (Elt F)) (i : S6x256.Idx) :
    val_main_v41 (F := F) x0 x1 x2 i = FloatOps.mulf (val_main_v35 (F := F) x0 x1 x2 i) (val_main_v35 (F := F) x0 x1 x2 i) := rfl

-- %42 = stablehlo.multiply %21, %16 : tensor<f32>
def val_main_v42 (x1 : (⟨S2, .f32⟩ : BufTy).Contents (Elt F)) : (⟨S_, .f32⟩ : BufTy).Contents (Elt F) :=
  mulf (val_main_v21 (F := F) x1) (val_main_v16 (F := F) x1)
theorem val_main_v42_apply (x1 : (⟨S2, .f32⟩ : BufTy).Contents (Elt F)) (i : S_.Idx) :
    val_main_v42 (F := F) x1 i = FloatOps.mulf (val_main_v21 (F := F) x1 i) (val_main_v16 (F := F) x1 i) := rfl

-- %43 = stablehlo.divide %42, %34 : tensor<f32>
def val_main_v43 (x1 : (⟨S2, .f32⟩ : BufTy).Contents (Elt F)) : (⟨S_, .f32⟩ : BufTy).Contents (Elt F) :=
  Host.divf (val_main_v42 (F := F) x1) (val_main_v34 (F := F) x1)
theorem val_main_v43_apply (x1 : (⟨S2, .f32⟩ : BufTy).Contents (Elt F)) (i : S_.Idx) :
    val_main_v43 (F := F) x1 i = FloatOps.hostDivf (val_main_v42 (F := F) x1 i) (val_main_v34 (F := F) x1 i) := rfl

-- %44 = stablehlo.broadcast_in_dim %43, dims = [] : (tensor<f32>) -> tensor<6x256xf32>
def val_main_v44 (x1 : (⟨S2, .f32⟩ : BufTy).Contents (Elt F)) : (⟨S6x256, .f32⟩ : BufTy).Contents (Elt F) :=
  broadcastInDim S6x256 ![] bcast_S_S6x256 (val_main_v43 (F := F) x1)
abbrev idx_main_v44 (i : S6x256.Idx) : S_.Idx := fun a => a.elim0
theorem val_main_v44_apply (x1 : (⟨S2, .f32⟩ : BufTy).Contents (Elt F)) (i : S6x256.Idx) :
    val_main_v44 (F := F) x1 i = val_main_v43 (F := F) x1 (idx_main_v44 i) := by
  unfold val_main_v44
  generalize val_main_v43 (F := F) x1 = y
  exact broadcastInDim_apply _ bcast_S_S6x256 y i (idx_main_v44 i) (fun a => a.elim0)

-- %45 = stablehlo.multiply %41, %44 : tensor<6x256xf32>
def val_main_v45 (x0 : (⟨S6x256x7168, .bf16⟩ : BufTy).Contents (Elt F)) (x1 : (⟨S2, .f32⟩ : BufTy).Contents (Elt F)) (x2 : (⟨S2x6x256, .f32⟩ : BufTy).Contents (Elt F)) : (⟨S6x256, .f32⟩ : BufTy).Contents (Elt F) :=
  mulf (val_main_v41 (F := F) x0 x1 x2) (val_main_v44 (F := F) x1)
theorem val_main_v45_apply (x0 : (⟨S6x256x7168, .bf16⟩ : BufTy).Contents (Elt F)) (x1 : (⟨S2, .f32⟩ : BufTy).Contents (Elt F)) (x2 : (⟨S2x6x256, .f32⟩ : BufTy).Contents (Elt F)) (i : S6x256.Idx) :
    val_main_v45 (F := F) x0 x1 x2 i = FloatOps.mulf (val_main_v41 (F := F) x0 x1 x2 i) (val_main_v44 (F := F) x1 i) := rfl

-- %46 = stablehlo.add %40, %45 : tensor<6x256xf32>
def val_main_v46 (x0 : (⟨S6x256x7168, .bf16⟩ : BufTy).Contents (Elt F)) (x1 : (⟨S2, .f32⟩ : BufTy).Contents (Elt F)) (x2 x3 : (⟨S2x6x256, .f32⟩ : BufTy).Contents (Elt F)) : (⟨S6x256, .f32⟩ : BufTy).Contents (Elt F) :=
  addf (val_main_v40 (F := F) x0 x1 x2 x3) (val_main_v45 (F := F) x0 x1 x2)
theorem val_main_v46_apply (x0 : (⟨S6x256x7168, .bf16⟩ : BufTy).Contents (Elt F)) (x1 : (⟨S2, .f32⟩ : BufTy).Contents (Elt F)) (x2 x3 : (⟨S2x6x256, .f32⟩ : BufTy).Contents (Elt F)) (i : S6x256.Idx) :
    val_main_v46 (F := F) x0 x1 x2 x3 i = FloatOps.addf (val_main_v40 (F := F) x0 x1 x2 x3 i) (val_main_v45 (F := F) x0 x1 x2 i) := rfl

-- %47 = stablehlo.broadcast_in_dim %34, dims = [] : (tensor<f32>) -> tensor<6x256xf32>
def val_main_v47 (x1 : (⟨S2, .f32⟩ : BufTy).Contents (Elt F)) : (⟨S6x256, .f32⟩ : BufTy).Contents (Elt F) :=
  broadcastInDim S6x256 ![] bcast_S_S6x256 (val_main_v34 (F := F) x1)
abbrev idx_main_v47 (i : S6x256.Idx) : S_.Idx := fun a => a.elim0
theorem val_main_v47_apply (x1 : (⟨S2, .f32⟩ : BufTy).Contents (Elt F)) (i : S6x256.Idx) :
    val_main_v47 (F := F) x1 i = val_main_v34 (F := F) x1 (idx_main_v47 i) := by
  unfold val_main_v47
  generalize val_main_v34 (F := F) x1 = y
  exact broadcastInDim_apply _ bcast_S_S6x256 y i (idx_main_v47 i) (fun a => a.elim0)

-- %48 = stablehlo.divide %46, %47 : tensor<6x256xf32>
def val_main_v48 (x0 : (⟨S6x256x7168, .bf16⟩ : BufTy).Contents (Elt F)) (x1 : (⟨S2, .f32⟩ : BufTy).Contents (Elt F)) (x2 x3 : (⟨S2x6x256, .f32⟩ : BufTy).Contents (Elt F)) : (⟨S6x256, .f32⟩ : BufTy).Contents (Elt F) :=
  Host.divf (val_main_v46 (F := F) x0 x1 x2 x3) (val_main_v47 (F := F) x1)
theorem val_main_v48_apply (x0 : (⟨S6x256x7168, .bf16⟩ : BufTy).Contents (Elt F)) (x1 : (⟨S2, .f32⟩ : BufTy).Contents (Elt F)) (x2 x3 : (⟨S2x6x256, .f32⟩ : BufTy).Contents (Elt F)) (i : S6x256.Idx) :
    val_main_v48 (F := F) x0 x1 x2 x3 i = FloatOps.hostDivf (val_main_v46 (F := F) x0 x1 x2 x3 i) (val_main_v47 (F := F) x1 i) := rfl

-- %cst_5 = stablehlo.constant dense<9.99999974E-6> : tensor<f32>
def val_main_cst_5 : (⟨S_, .f32⟩ : BufTy).Contents (Elt F) :=
  constant S_ .f32 0x3727C5AC#32
theorem val_main_cst_5_apply (i : S_.Idx) :
    val_main_cst_5 (F := F) i = FloatOps.ofBits .f32 0x3727C5AC#32 := rfl

-- %49 = stablehlo.broadcast_in_dim %cst_5, dims = [] : (tensor<f32>) -> tensor<6x256xf32>
def val_main_v49 : (⟨S6x256, .f32⟩ : BufTy).Contents (Elt F) :=
  broadcastInDim S6x256 ![] bcast_S_S6x256 (val_main_cst_5 (F := F))
abbrev idx_main_v49 (i : S6x256.Idx) : S_.Idx := fun a => a.elim0
theorem val_main_v49_apply (i : S6x256.Idx) :
    val_main_v49 (F := F) i = val_main_cst_5 (F := F) (idx_main_v49 i) := by
  unfold val_main_v49
  generalize val_main_cst_5 (F := F) = y
  exact broadcastInDim_apply _ bcast_S_S6x256 y i (idx_main_v49 i) (fun a => a.elim0)

-- %50 = stablehlo.add %48, %49 : tensor<6x256xf32>
def val_main_v50 (x0 : (⟨S6x256x7168, .bf16⟩ : BufTy).Contents (Elt F)) (x1 : (⟨S2, .f32⟩ : BufTy).Contents (Elt F)) (x2 x3 : (⟨S2x6x256, .f32⟩ : BufTy).Contents (Elt F)) : (⟨S6x256, .f32⟩ : BufTy).Contents (Elt F) :=
  addf (val_main_v48 (F := F) x0 x1 x2 x3) (val_main_v49 (F := F))
theorem val_main_v50_apply (x0 : (⟨S6x256x7168, .bf16⟩ : BufTy).Contents (Elt F)) (x1 : (⟨S2, .f32⟩ : BufTy).Contents (Elt F)) (x2 x3 : (⟨S2x6x256, .f32⟩ : BufTy).Contents (Elt F)) (i : S6x256.Idx) :
    val_main_v50 (F := F) x0 x1 x2 x3 i = FloatOps.addf (val_main_v48 (F := F) x0 x1 x2 x3 i) (val_main_v49 (F := F) i) := rfl

-- %51 = stablehlo.rsqrt %50 : tensor<6x256xf32>
def val_main_v51 (x0 : (⟨S6x256x7168, .bf16⟩ : BufTy).Contents (Elt F)) (x1 : (⟨S2, .f32⟩ : BufTy).Contents (Elt F)) (x2 x3 : (⟨S2x6x256, .f32⟩ : BufTy).Contents (Elt F)) : (⟨S6x256, .f32⟩ : BufTy).Contents (Elt F) :=
  Host.rsqrt (val_main_v50 (F := F) x0 x1 x2 x3)
theorem val_main_v51_apply (x0 : (⟨S6x256x7168, .bf16⟩ : BufTy).Contents (Elt F)) (x1 : (⟨S2, .f32⟩ : BufTy).Contents (Elt F)) (x2 x3 : (⟨S2x6x256, .f32⟩ : BufTy).Contents (Elt F)) (i : S6x256.Idx) :
    val_main_v51 (F := F) x0 x1 x2 x3 i = FloatOps.hostUnary .rsqrt (val_main_v50 (F := F) x0 x1 x2 x3 i) := rfl

-- %52 = stablehlo.broadcast_in_dim %39, dims = [0, 1] : (tensor<6x256xf32>) -> tensor<6x256x1xf32>
def val_main_v52 (x0 : (⟨S6x256x7168, .bf16⟩ : BufTy).Contents (Elt F)) (x1 : (⟨S2, .f32⟩ : BufTy).Contents (Elt F)) (x2 : (⟨S2x6x256, .f32⟩ : BufTy).Contents (Elt F)) : (⟨S6x256x1, .f32⟩ : BufTy).Contents (Elt F) :=
  broadcastInDim S6x256x1 ![0, 1] bcast_S6x256_S6x256x1_0_1 (val_main_v39 (F := F) x0 x1 x2)
abbrev idx_main_v52 (i : S6x256x1.Idx) : S6x256.Idx := fun a => match a with
  | ⟨0, _⟩ => ⟨(i 0).val, (i 0).isLt⟩
  | ⟨1, _⟩ => ⟨(i 1).val, (i 1).isLt⟩
theorem val_main_v52_apply (x0 : (⟨S6x256x7168, .bf16⟩ : BufTy).Contents (Elt F)) (x1 : (⟨S2, .f32⟩ : BufTy).Contents (Elt F)) (x2 : (⟨S2x6x256, .f32⟩ : BufTy).Contents (Elt F)) (i : S6x256x1.Idx) :
    val_main_v52 (F := F) x0 x1 x2 i = val_main_v39 (F := F) x0 x1 x2 (idx_main_v52 i) := by
  unfold val_main_v52
  generalize val_main_v39 (F := F) x0 x1 x2 = y
  exact broadcastInDim_apply _ bcast_S6x256_S6x256x1_0_1 y i (idx_main_v52 i) (fun a => match a with
    | ⟨0, _⟩ => by show (i 0).val = if (6 : Nat) = 1 then 0 else (i 0).val; rw [if_neg (by decide)]
    | ⟨1, _⟩ => by show (i 1).val = if (256 : Nat) = 1 then 0 else (i 1).val; rw [if_neg (by decide)])

-- %53 = stablehlo.broadcast_in_dim %52, dims = [0, 1, 2] : (tensor<6x256x1xf32>) -> tensor<6x256x7168xf32>
def val_main_v53 (x0 : (⟨S6x256x7168, .bf16⟩ : BufTy).Contents (Elt F)) (x1 : (⟨S2, .f32⟩ : BufTy).Contents (Elt F)) (x2 : (⟨S2x6x256, .f32⟩ : BufTy).Contents (Elt F)) : (⟨S6x256x7168, .f32⟩ : BufTy).Contents (Elt F) :=
  broadcastInDim S6x256x7168 ![0, 1, 2] bcast_S6x256x1_S6x256x7168_0_1_2 (val_main_v52 (F := F) x0 x1 x2)
abbrev idx_main_v53 (i : S6x256x7168.Idx) : S6x256x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v53_apply (x0 : (⟨S6x256x7168, .bf16⟩ : BufTy).Contents (Elt F)) (x1 : (⟨S2, .f32⟩ : BufTy).Contents (Elt F)) (x2 : (⟨S2x6x256, .f32⟩ : BufTy).Contents (Elt F)) (i : S6x256x7168.Idx) :
    val_main_v53 (F := F) x0 x1 x2 i = val_main_v52 (F := F) x0 x1 x2 (idx_main_v53 i) := by
  unfold val_main_v53
  generalize val_main_v52 (F := F) x0 x1 x2 = y
  exact broadcastInDim_apply _ bcast_S6x256x1_S6x256x7168_0_1_2 y i (idx_main_v53 i) (fun a => match a with
    | ⟨0, _⟩ => by show (i 0).val = if (6 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl])

-- %54 = stablehlo.subtract %0, %53 : tensor<6x256x7168xf32>
def val_main_v54 (x0 : (⟨S6x256x7168, .bf16⟩ : BufTy).Contents (Elt F)) (x1 : (⟨S2, .f32⟩ : BufTy).Contents (Elt F)) (x2 : (⟨S2x6x256, .f32⟩ : BufTy).Contents (Elt F)) : (⟨S6x256x7168, .f32⟩ : BufTy).Contents (Elt F) :=
  subf (val_main_v0 (F := F) x0) (val_main_v53 (F := F) x0 x1 x2)
theorem val_main_v54_apply (x0 : (⟨S6x256x7168, .bf16⟩ : BufTy).Contents (Elt F)) (x1 : (⟨S2, .f32⟩ : BufTy).Contents (Elt F)) (x2 : (⟨S2x6x256, .f32⟩ : BufTy).Contents (Elt F)) (i : S6x256x7168.Idx) :
    val_main_v54 (F := F) x0 x1 x2 i = FloatOps.subf (val_main_v0 (F := F) x0 i) (val_main_v53 (F := F) x0 x1 x2 i) := rfl

-- %55 = stablehlo.broadcast_in_dim %51, dims = [0, 1] : (tensor<6x256xf32>) -> tensor<6x256x1xf32>
def val_main_v55 (x0 : (⟨S6x256x7168, .bf16⟩ : BufTy).Contents (Elt F)) (x1 : (⟨S2, .f32⟩ : BufTy).Contents (Elt F)) (x2 x3 : (⟨S2x6x256, .f32⟩ : BufTy).Contents (Elt F)) : (⟨S6x256x1, .f32⟩ : BufTy).Contents (Elt F) :=
  broadcastInDim S6x256x1 ![0, 1] bcast_S6x256_S6x256x1_0_1 (val_main_v51 (F := F) x0 x1 x2 x3)
abbrev idx_main_v55 (i : S6x256x1.Idx) : S6x256.Idx := fun a => match a with
  | ⟨0, _⟩ => ⟨(i 0).val, (i 0).isLt⟩
  | ⟨1, _⟩ => ⟨(i 1).val, (i 1).isLt⟩
theorem val_main_v55_apply (x0 : (⟨S6x256x7168, .bf16⟩ : BufTy).Contents (Elt F)) (x1 : (⟨S2, .f32⟩ : BufTy).Contents (Elt F)) (x2 x3 : (⟨S2x6x256, .f32⟩ : BufTy).Contents (Elt F)) (i : S6x256x1.Idx) :
    val_main_v55 (F := F) x0 x1 x2 x3 i = val_main_v51 (F := F) x0 x1 x2 x3 (idx_main_v55 i) := by
  unfold val_main_v55
  generalize val_main_v51 (F := F) x0 x1 x2 x3 = y
  exact broadcastInDim_apply _ bcast_S6x256_S6x256x1_0_1 y i (idx_main_v55 i) (fun a => match a with
    | ⟨0, _⟩ => by show (i 0).val = if (6 : Nat) = 1 then 0 else (i 0).val; rw [if_neg (by decide)]
    | ⟨1, _⟩ => by show (i 1).val = if (256 : Nat) = 1 then 0 else (i 1).val; rw [if_neg (by decide)])

-- %56 = stablehlo.broadcast_in_dim %55, dims = [0, 1, 2] : (tensor<6x256x1xf32>) -> tensor<6x256x7168xf32>
def val_main_v56 (x0 : (⟨S6x256x7168, .bf16⟩ : BufTy).Contents (Elt F)) (x1 : (⟨S2, .f32⟩ : BufTy).Contents (Elt F)) (x2 x3 : (⟨S2x6x256, .f32⟩ : BufTy).Contents (Elt F)) : (⟨S6x256x7168, .f32⟩ : BufTy).Contents (Elt F) :=
  broadcastInDim S6x256x7168 ![0, 1, 2] bcast_S6x256x1_S6x256x7168_0_1_2 (val_main_v55 (F := F) x0 x1 x2 x3)
abbrev idx_main_v56 (i : S6x256x7168.Idx) : S6x256x1.Idx := fun a => match a with
  | ⟨0, _⟩ => ⟨(i 0).val, (i 0).isLt⟩
  | ⟨1, _⟩ => ⟨(i 1).val, (i 1).isLt⟩
  | ⟨2, _⟩ => ⟨0, Nat.one_pos⟩
theorem val_main_v56_apply (x0 : (⟨S6x256x7168, .bf16⟩ : BufTy).Contents (Elt F)) (x1 : (⟨S2, .f32⟩ : BufTy).Contents (Elt F)) (x2 x3 : (⟨S2x6x256, .f32⟩ : BufTy).Contents (Elt F)) (i : S6x256x7168.Idx) :
    val_main_v56 (F := F) x0 x1 x2 x3 i = val_main_v55 (F := F) x0 x1 x2 x3 (idx_main_v56 i) := by
  unfold val_main_v56
  generalize val_main_v55 (F := F) x0 x1 x2 x3 = y
  exact broadcastInDim_apply _ bcast_S6x256x1_S6x256x7168_0_1_2 y i (idx_main_v56 i) (fun a => match a with
    | ⟨0, _⟩ => by show (i 0).val = if (6 : Nat) = 1 then 0 else (i 0).val; rw [if_neg (by decide)]
    | ⟨1, _⟩ => by show (i 1).val = if (256 : Nat) = 1 then 0 else (i 1).val; rw [if_neg (by decide)]
    | ⟨2, _⟩ => by show 0 = if (1 : Nat) = 1 then 0 else (i 2).val; rw [if_pos rfl])

-- %57 = stablehlo.multiply %54, %56 : tensor<6x256x7168xf32>
def val_main_v57 (x0 : (⟨S6x256x7168, .bf16⟩ : BufTy).Contents (Elt F)) (x1 : (⟨S2, .f32⟩ : BufTy).Contents (Elt F)) (x2 x3 : (⟨S2x6x256, .f32⟩ : BufTy).Contents (Elt F)) : (⟨S6x256x7168, .f32⟩ : BufTy).Contents (Elt F) :=
  mulf (val_main_v54 (F := F) x0 x1 x2) (val_main_v56 (F := F) x0 x1 x2 x3)
theorem val_main_v57_apply (x0 : (⟨S6x256x7168, .bf16⟩ : BufTy).Contents (Elt F)) (x1 : (⟨S2, .f32⟩ : BufTy).Contents (Elt F)) (x2 x3 : (⟨S2x6x256, .f32⟩ : BufTy).Contents (Elt F)) (i : S6x256x7168.Idx) :
    val_main_v57 (F := F) x0 x1 x2 x3 i = FloatOps.mulf (val_main_v54 (F := F) x0 x1 x2 i) (val_main_v56 (F := F) x0 x1 x2 x3 i) := rfl

-- %58 = stablehlo.broadcast_in_dim %arg4, dims = [2] : (tensor<7168xf32>) -> tensor<1x1x7168xf32>
def val_main_v58 (x4 : (⟨S7168, .f32⟩ : BufTy).Contents (Elt F)) : (⟨S1x1x7168, .f32⟩ : BufTy).Contents (Elt F) :=
  broadcastInDim S1x1x7168 ![2] bcast_S7168_S1x1x7168_2 (x4)
abbrev idx_main_v58 (i : S1x1x7168.Idx) : S7168.Idx := fun a => match a with
  | ⟨0, _⟩ => ⟨(i 2).val, (i 2).isLt⟩
theorem val_main_v58_apply (x4 : (⟨S7168, .f32⟩ : BufTy).Contents (Elt F)) (i : S1x1x7168.Idx) :
    val_main_v58 (F := F) x4 i = x4 (idx_main_v58 i) := by
  unfold val_main_v58
  exact broadcastInDim_apply _ bcast_S7168_S1x1x7168_2 x4 i (idx_main_v58 i) (fun a => match a with
    | ⟨0, _⟩ => by show (i 2).val = if (7168 : Nat) = 1 then 0 else (i 2).val; rw [if_neg (by decide)])

-- %59 = stablehlo.broadcast_in_dim %58, dims = [0, 1, 2] : (tensor<1x1x7168xf32>) -> tensor<6x256x7168xf32>
def val_main_v59 (x4 : (⟨S7168, .f32⟩ : BufTy).Contents (Elt F)) : (⟨S6x256x7168, .f32⟩ : BufTy).Contents (Elt F) :=
  broadcastInDim S6x256x7168 ![0, 1, 2] bcast_S1x1x7168_S6x256x7168_0_1_2 (val_main_v58 (F := F) x4)
abbrev idx_main_v59 (i : S6x256x7168.Idx) : S1x1x7168.Idx := fun a => match a with
  | ⟨0, _⟩ => ⟨0, Nat.one_pos⟩
  | ⟨1, _⟩ => ⟨0, Nat.one_pos⟩
  | ⟨2, _⟩ => ⟨(i 2).val, (i 2).isLt⟩
theorem val_main_v59_apply (x4 : (⟨S7168, .f32⟩ : BufTy).Contents (Elt F)) (i : S6x256x7168.Idx) :
    val_main_v59 (F := F) x4 i = val_main_v58 (F := F) x4 (idx_main_v59 i) := by
  unfold val_main_v59
  generalize val_main_v58 (F := F) x4 = y
  exact broadcastInDim_apply _ bcast_S1x1x7168_S6x256x7168_0_1_2 y i (idx_main_v59 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (7168 : Nat) = 1 then 0 else (i 2).val; rw [if_neg (by decide)])

-- %60 = stablehlo.multiply %57, %59 : tensor<6x256x7168xf32>
def val_main_v60 (x0 : (⟨S6x256x7168, .bf16⟩ : BufTy).Contents (Elt F)) (x1 : (⟨S2, .f32⟩ : BufTy).Contents (Elt F)) (x2 x3 : (⟨S2x6x256, .f32⟩ : BufTy).Contents (Elt F)) (x4 : (⟨S7168, .f32⟩ : BufTy).Contents (Elt F)) : (⟨S6x256x7168, .f32⟩ : BufTy).Contents (Elt F) :=
  mulf (val_main_v57 (F := F) x0 x1 x2 x3) (val_main_v59 (F := F) x4)
theorem val_main_v60_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 : (⟨S7168, .f32⟩ : BufTy).Contents (Elt F)) (i : S6x256x7168.Idx) :
    val_main_v60 (F := F) x0 x1 x2 x3 x4 i = FloatOps.mulf (val_main_v57 (F := F) x0 x1 x2 x3 i) (val_main_v59 (F := F) x4 i) := rfl

-- %61 = stablehlo.broadcast_in_dim %arg5, dims = [2] : (tensor<7168xf32>) -> tensor<1x1x7168xf32>
def val_main_v61 (x5 : (⟨S7168, .f32⟩ : BufTy).Contents (Elt F)) : (⟨S1x1x7168, .f32⟩ : BufTy).Contents (Elt F) :=
  broadcastInDim S1x1x7168 ![2] bcast_S7168_S1x1x7168_2 (x5)
abbrev idx_main_v61 (i : S1x1x7168.Idx) : S7168.Idx := fun a => match a with
  | ⟨0, _⟩ => ⟨(i 2).val, (i 2).isLt⟩
theorem val_main_v61_apply (x5 : (⟨S7168, .f32⟩ : BufTy).Contents (Elt F)) (i : S1x1x7168.Idx) :
    val_main_v61 (F := F) x5 i = x5 (idx_main_v61 i) := by
  unfold val_main_v61
  exact broadcastInDim_apply _ bcast_S7168_S1x1x7168_2 x5 i (idx_main_v61 i) (fun a => match a with
    | ⟨0, _⟩ => by show (i 2).val = if (7168 : Nat) = 1 then 0 else (i 2).val; rw [if_neg (by decide)])

-- %62 = stablehlo.broadcast_in_dim %61, dims = [0, 1, 2] : (tensor<1x1x7168xf32>) -> tensor<6x256x7168xf32>
def val_main_v62 (x5 : (⟨S7168, .f32⟩ : BufTy).Contents (Elt F)) : (⟨S6x256x7168, .f32⟩ : BufTy).Contents (Elt F) :=
  broadcastInDim S6x256x7168 ![0, 1, 2] bcast_S1x1x7168_S6x256x7168_0_1_2 (val_main_v61 (F := F) x5)
abbrev idx_main_v62 (i : S6x256x7168.Idx) : S1x1x7168.Idx := fun a => match a with
  | ⟨0, _⟩ => ⟨0, Nat.one_pos⟩
  | ⟨1, _⟩ => ⟨0, Nat.one_pos⟩
  | ⟨2, _⟩ => ⟨(i 2).val, (i 2).isLt⟩
theorem val_main_v62_apply (x5 : (⟨S7168, .f32⟩ : BufTy).Contents (Elt F)) (i : S6x256x7168.Idx) :
    val_main_v62 (F := F) x5 i = val_main_v61 (F := F) x5 (idx_main_v62 i) := by
  unfold val_main_v62
  generalize val_main_v61 (F := F) x5 = y
  exact broadcastInDim_apply _ bcast_S1x1x7168_S6x256x7168_0_1_2 y i (idx_main_v62 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show (i 2).val = if (7168 : Nat) = 1 then 0 else (i 2).val; rw [if_neg (by decide)])

-- %63 = stablehlo.add %60, %62 : tensor<6x256x7168xf32>
def val_main_v63 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x7168, .f32⟩ : BufTy).Contents (Elt F) :=
  addf (val_main_v60 (F := F) x0 x1 x2 x3 x4) (val_main_v62 (F := F) x5)
theorem val_main_v63_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x7168.Idx) :
    val_main_v63 (F := F) x0 x1 x2 x3 x4 x5 i = FloatOps.addf (val_main_v60 (F := F) x0 x1 x2 x3 x4 i) (val_main_v62 (F := F) x5 i) := rfl

-- %64 = stablehlo.reshape %63 : (tensor<6x256x7168xf32>) -> tensor<6x256x224x32xf32>
def val_main_v64 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224x32, .f32⟩ : BufTy).Contents (Elt F) :=
  shapeCast _ (val_main_v63 (F := F) x0 x1 x2 x3 x4 x5) shapeCasts_S6x256x7168_S6x256x224x32
set_option backward.proofsInPublic true in
abbrev idx_main_v64 (i : S6x256x224x32.Idx) : S6x256x7168.Idx := fun a => match a with
  | ⟨0, _⟩ => ⟨((((i 0).val * 256 + (i 1).val) * 224 + (i 2).val) * 32 + (i 3).val) / 1835008, by have h0 : (i 0).val < 6 := (i 0).isLt; have h1 : (i 1).val < 256 := (i 1).isLt; have h2 : (i 2).val < 224 := (i 2).isLt; have h3 : (i 3).val < 32 := (i 3).isLt; show ((((i 0).val * 256 + (i 1).val) * 224 + (i 2).val) * 32 + (i 3).val) / 1835008 < 6; omega⟩
  | ⟨1, _⟩ => ⟨((((i 0).val * 256 + (i 1).val) * 224 + (i 2).val) * 32 + (i 3).val) / 7168 % 256, by have h0 : (i 0).val < 6 := (i 0).isLt; have h1 : (i 1).val < 256 := (i 1).isLt; have h2 : (i 2).val < 224 := (i 2).isLt; have h3 : (i 3).val < 32 := (i 3).isLt; show ((((i 0).val * 256 + (i 1).val) * 224 + (i 2).val) * 32 + (i 3).val) / 7168 % 256 < 256; omega⟩
  | ⟨2, _⟩ => ⟨((((i 0).val * 256 + (i 1).val) * 224 + (i 2).val) * 32 + (i 3).val) % 7168, by have h0 : (i 0).val < 6 := (i 0).isLt; have h1 : (i 1).val < 256 := (i 1).isLt; have h2 : (i 2).val < 224 := (i 2).isLt; have h3 : (i 3).val < 32 := (i 3).isLt; show ((((i 0).val * 256 + (i 1).val) * 224 + (i 2).val) * 32 + (i 3).val) % 7168 < 7168; omega⟩
theorem val_main_v64_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224x32.Idx) :
    val_main_v64 (F := F) x0 x1 x2 x3 x4 x5 i = val_main_v63 (F := F) x0 x1 x2 x3 x4 x5 (idx_main_v64 i) := by
  unfold val_main_v64
  generalize val_main_v63 (F := F) x0 x1 x2 x3 x4 x5 = y
  exact shapeCast_apply y shapeCasts_S6x256x7168_S6x256x224x32 i (idx_main_v64 i)
    (by rewrite [Shape.rowMajor_val_three, Shape.rowMajor_val_four]; have h0 : (i 0).val < 6 := (i 0).isLt; have h1 : (i 1).val < 256 := (i 1).isLt; have h2 : (i 2).val < 224 := (i 2).isLt; have h3 : (i 3).val < 32 := (i 3).isLt; show (((((i 0).val * 256 + (i 1).val) * 224 + (i 2).val) * 32 + (i 3).val) / 1835008 * 256 + ((((i 0).val * 256 + (i 1).val) * 224 + (i 2).val) * 32 + (i 3).val) / 7168 % 256) * 7168 + ((((i 0).val * 256 + (i 1).val) * 224 + (i 2).val) * 32 + (i 3).val) % 7168 = (((i 0).val * 256 + (i 1).val) * 224 + (i 2).val) * 32 + (i 3).val; omega)

-- %65 = stablehlo.abs %64 : tensor<6x256x224x32xf32>
def val_main_v65 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224x32, .f32⟩ : BufTy).Contents (Elt F) :=
  Host.absf (val_main_v64 (F := F) x0 x1 x2 x3 x4 x5)
theorem val_main_v65_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224x32.Idx) :
    val_main_v65 (F := F) x0 x1 x2 x3 x4 x5 i = FloatOps.hostAbsf (val_main_v64 (F := F) x0 x1 x2 x3 x4 x5 i) := rfl

-- %cst_6 = stablehlo.constant dense<0xFF800000> : tensor<f32>
def val_main_cst_6 : (⟨S_, .f32⟩ : BufTy).Contents (Elt F) :=
  constant S_ .f32 0xFF800000#32
theorem val_main_cst_6_apply (i : S_.Idx) :
    val_main_cst_6 (F := F) i = FloatOps.ofBits .f32 0xFF800000#32 := rfl

-- %66 = stablehlo.reduce(%65 init: %cst_6) applies stablehlo.maximum across dimensions = [3] : (tensor<6x256x224x32xf32>, tensor<f32>) -> tensor<6x256x224xf32> {
def val_main_v66 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224, .f32⟩ : BufTy).Contents (Elt F) :=
  Host.reduce FloatOps.maximumf (val_main_v65 (F := F) x0 x1 x2 x3 x4 x5) (val_main_cst_6 (F := F)) reducesTo_S6x256x224x32_S6x256x224_d3 h_S_

-- %cst_7 = stablehlo.constant dense<0.00223214296> : tensor<f32>
def val_main_cst_7 : (⟨S_, .f32⟩ : BufTy).Contents (Elt F) :=
  constant S_ .f32 0x3B124925#32
theorem val_main_cst_7_apply (i : S_.Idx) :
    val_main_cst_7 (F := F) i = FloatOps.ofBits .f32 0x3B124925#32 := rfl

-- %67 = stablehlo.broadcast_in_dim %cst_7, dims = [] : (tensor<f32>) -> tensor<6x256x224xf32>
def val_main_v67 : (⟨S6x256x224, .f32⟩ : BufTy).Contents (Elt F) :=
  broadcastInDim S6x256x224 ![] bcast_S_S6x256x224 (val_main_cst_7 (F := F))
abbrev idx_main_v67 (i : S6x256x224.Idx) : S_.Idx := fun a => a.elim0
theorem val_main_v67_apply (i : S6x256x224.Idx) :
    val_main_v67 (F := F) i = val_main_cst_7 (F := F) (idx_main_v67 i) := by
  unfold val_main_v67
  generalize val_main_cst_7 (F := F) = y
  exact broadcastInDim_apply _ bcast_S_S6x256x224 y i (idx_main_v67 i) (fun a => a.elim0)

-- %68 = stablehlo.multiply %66, %67 : tensor<6x256x224xf32>
def val_main_v68 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224, .f32⟩ : BufTy).Contents (Elt F) :=
  mulf (val_main_v66 (F := F) x0 x1 x2 x3 x4 x5) (val_main_v67 (F := F))
theorem val_main_v68_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224.Idx) :
    val_main_v68 (F := F) x0 x1 x2 x3 x4 x5 i = FloatOps.mulf (val_main_v66 (F := F) x0 x1 x2 x3 x4 x5 i) (val_main_v67 (F := F) i) := rfl

-- %69 = stablehlo.iota dim = 0 : tensor<254xi32>
def val_main_v69 : (⟨S254, .i32⟩ : BufTy).Contents (Elt F) :=
  iotaInDim S254 32 0
theorem val_main_v69_apply (i : S254.Idx) :
    val_main_v69 (F := F) i = BitVec.ofNat 32 (i 0).val := rfl

-- %c = stablehlo.constant dense<-126> : tensor<i32>
def val_main_c : (⟨S_, .i32⟩ : BufTy).Contents (Elt F) :=
  constantI S_ 32 4294967170#32
theorem val_main_c_apply (i : S_.Idx) :
    val_main_c (F := F) i = 4294967170#32 := rfl

-- %70 = stablehlo.broadcast_in_dim %c, dims = [] : (tensor<i32>) -> tensor<254xi32>
def val_main_v70 : (⟨S254, .i32⟩ : BufTy).Contents (Elt F) :=
  broadcastInDim S254 ![] bcast_S_S254 (val_main_c (F := F))
abbrev idx_main_v70 (i : S254.Idx) : S_.Idx := fun a => a.elim0
theorem val_main_v70_apply (i : S254.Idx) :
    val_main_v70 (F := F) i = val_main_c (F := F) (idx_main_v70 i) := by
  unfold val_main_v70
  generalize val_main_c (F := F) = y
  exact broadcastInDim_apply _ bcast_S_S254 y i (idx_main_v70 i) (fun a => a.elim0)

-- %71 = stablehlo.add %70, %69 : tensor<254xi32>
def val_main_v71 : (⟨S254, .i32⟩ : BufTy).Contents (Elt F) :=
  addi (val_main_v70 (F := F)) (val_main_v69 (F := F))
theorem val_main_v71_apply (i : S254.Idx) :
    val_main_v71 (F := F) i = IntOp.addi (val_main_v70 (F := F) i) (val_main_v69 (F := F) i) := rfl

-- %72 = stablehlo.convert %71 : (tensor<254xi32>) -> tensor<254xf32>
def val_main_v72 : (⟨S254, .f32⟩ : BufTy).Contents (Elt F) :=
  sitofp .f32 (val_main_v71 (F := F))
theorem val_main_v72_apply (i : S254.Idx) :
    val_main_v72 (F := F) i = FloatOps.sitofp .f32 (val_main_v71 (F := F) i) := rfl

-- %cst_8 = stablehlo.constant dense<2.000000e+00> : tensor<f32>
def val_main_cst_8 : (⟨S_, .f32⟩ : BufTy).Contents (Elt F) :=
  constant S_ .f32 0x40000000#32
theorem val_main_cst_8_apply (i : S_.Idx) :
    val_main_cst_8 (F := F) i = FloatOps.ofBits .f32 0x40000000#32 := rfl

-- %73 = stablehlo.broadcast_in_dim %cst_8, dims = [] : (tensor<f32>) -> tensor<254xf32>
def val_main_v73 : (⟨S254, .f32⟩ : BufTy).Contents (Elt F) :=
  broadcastInDim S254 ![] bcast_S_S254 (val_main_cst_8 (F := F))
abbrev idx_main_v73 (i : S254.Idx) : S_.Idx := fun a => a.elim0
theorem val_main_v73_apply (i : S254.Idx) :
    val_main_v73 (F := F) i = val_main_cst_8 (F := F) (idx_main_v73 i) := by
  unfold val_main_v73
  generalize val_main_cst_8 (F := F) = y
  exact broadcastInDim_apply _ bcast_S_S254 y i (idx_main_v73 i) (fun a => a.elim0)

-- %74 = stablehlo.power %73, %72 : tensor<254xf32>
def val_main_v74 : (⟨S254, .f32⟩ : BufTy).Contents (Elt F) :=
  Host.powf (val_main_v73 (F := F)) (val_main_v72 (F := F))
theorem val_main_v74_apply (i : S254.Idx) :
    val_main_v74 (F := F) i = FloatOps.hostPowf (val_main_v73 (F := F) i) (val_main_v72 (F := F) i) := rfl

-- %75 = stablehlo.broadcast_in_dim %68, dims = [0, 1, 2] : (tensor<6x256x224xf32>) -> tensor<6x256x224x1xf32>
def val_main_v75 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224x1, .f32⟩ : BufTy).Contents (Elt F) :=
  broadcastInDim S6x256x224x1 ![0, 1, 2] bcast_S6x256x224_S6x256x224x1_0_1_2 (val_main_v68 (F := F) x0 x1 x2 x3 x4 x5)
abbrev idx_main_v75 (i : S6x256x224x1.Idx) : S6x256x224.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v75_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224x1.Idx) :
    val_main_v75 (F := F) x0 x1 x2 x3 x4 x5 i = val_main_v68 (F := F) x0 x1 x2 x3 x4 x5 (idx_main_v75 i) := by
  unfold val_main_v75
  generalize val_main_v68 (F := F) x0 x1 x2 x3 x4 x5 = y
  exact broadcastInDim_apply _ bcast_S6x256x224_S6x256x224x1_0_1_2 y i (idx_main_v75 i) (fun a => match a with
    | ⟨0, _⟩ => by show (i 0).val = if (6 : Nat) = 1 then 0 else (i 0).val; rw [if_neg (by decide)]
    | ⟨1, _⟩ => by show (i 1).val = if (256 : Nat) = 1 then 0 else (i 1).val; rw [if_neg (by decide)]
    | ⟨2, _⟩ => by show (i 2).val = if (224 : Nat) = 1 then 0 else (i 2).val; rw [if_neg (by decide)])

-- %76 = stablehlo.broadcast_in_dim %74, dims = [3] : (tensor<254xf32>) -> tensor<1x1x1x254xf32>
def val_main_v76 : (⟨S1x1x1x254, .f32⟩ : BufTy).Contents (Elt F) :=
  broadcastInDim S1x1x1x254 ![3] bcast_S254_S1x1x1x254_3 (val_main_v74 (F := F))
abbrev idx_main_v76 (i : S1x1x1x254.Idx) : S254.Idx := fun a => match a with
  | ⟨0, _⟩ => ⟨(i 3).val, (i 3).isLt⟩
theorem val_main_v76_apply (i : S1x1x1x254.Idx) :
    val_main_v76 (F := F) i = val_main_v74 (F := F) (idx_main_v76 i) := by
  unfold val_main_v76
  generalize val_main_v74 (F := F) = y
  exact broadcastInDim_apply _ bcast_S254_S1x1x1x254_3 y i (idx_main_v76 i) (fun a => match a with
    | ⟨0, _⟩ => by show (i 3).val = if (254 : Nat) = 1 then 0 else (i 3).val; rw [if_neg (by decide)])

-- %77 = stablehlo.broadcast_in_dim %75, dims = [0, 1, 2, 3] : (tensor<6x256x224x1xf32>) -> tensor<6x256x224x254xf32>
def val_main_v77 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224x254, .f32⟩ : BufTy).Contents (Elt F) :=
  broadcastInDim S6x256x224x254 ![0, 1, 2, 3] bcast_S6x256x224x1_S6x256x224x254_0_1_2_3 (val_main_v75 (F := F) x0 x1 x2 x3 x4 x5)
abbrev idx_main_v77 (i : S6x256x224x254.Idx) : S6x256x224x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v77_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224x254.Idx) :
    val_main_v77 (F := F) x0 x1 x2 x3 x4 x5 i = val_main_v75 (F := F) x0 x1 x2 x3 x4 x5 (idx_main_v77 i) := by
  unfold val_main_v77
  generalize val_main_v75 (F := F) x0 x1 x2 x3 x4 x5 = y
  exact broadcastInDim_apply _ bcast_S6x256x224x1_S6x256x224x254_0_1_2_3 y i (idx_main_v77 i) (fun a => match a with
    | ⟨0, _⟩ => by show (i 0).val = if (6 : Nat) = 1 then 0 else (i 0).val; rw [if_neg (by decide)]
    | ⟨1, _⟩ => by show (i 1).val = if (256 : Nat) = 1 then 0 else (i 1).val; rw [if_neg (by decide)]
    | ⟨2, _⟩ => by show (i 2).val = if (224 : Nat) = 1 then 0 else (i 2).val; rw [if_neg (by decide)]
    | ⟨3, _⟩ => by show 0 = if (1 : Nat) = 1 then 0 else (i 3).val; rw [if_pos rfl])

-- %78 = stablehlo.broadcast_in_dim %76, dims = [0, 1, 2, 3] : (tensor<1x1x1x254xf32>) -> tensor<6x256x224x254xf32>
def val_main_v78 : (⟨S6x256x224x254, .f32⟩ : BufTy).Contents (Elt F) :=
  broadcastInDim S6x256x224x254 ![0, 1, 2, 3] bcast_S1x1x1x254_S6x256x224x254_0_1_2_3 (val_main_v76 (F := F))
abbrev idx_main_v78 (i : S6x256x224x254.Idx) : S1x1x1x254.Idx := fun a => match a with
  | ⟨0, _⟩ => ⟨0, Nat.one_pos⟩
  | ⟨1, _⟩ => ⟨0, Nat.one_pos⟩
  | ⟨2, _⟩ => ⟨0, Nat.one_pos⟩
  | ⟨3, _⟩ => ⟨(i 3).val, (i 3).isLt⟩
theorem val_main_v78_apply (i : S6x256x224x254.Idx) :
    val_main_v78 (F := F) i = val_main_v76 (F := F) (idx_main_v78 i) := by
  unfold val_main_v78
  generalize val_main_v76 (F := F) = y
  exact broadcastInDim_apply _ bcast_S1x1x1x254_S6x256x224x254_0_1_2_3 y i (idx_main_v78 i) (fun a => match a with
    | ⟨0, _⟩ => by show 0 = if (1 : Nat) = 1 then 0 else (i 0).val; rw [if_pos rfl]
    | ⟨1, _⟩ => by show 0 = if (1 : Nat) = 1 then 0 else (i 1).val; rw [if_pos rfl]
    | ⟨2, _⟩ => by show 0 = if (1 : Nat) = 1 then 0 else (i 2).val; rw [if_pos rfl]
    | ⟨3, _⟩ => by show (i 3).val = if (254 : Nat) = 1 then 0 else (i 3).val; rw [if_neg (by decide)])

-- %79 = stablehlo.compare GE, %77, %78, FLOAT : (tensor<6x256x224x254xf32>, tensor<6x256x224x254xf32>) -> tensor<6x256x224x254xi1>
def val_main_v79 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224x254, .i1⟩ : BufTy).Contents (Elt F) :=
  cmpf .oge (val_main_v77 (F := F) x0 x1 x2 x3 x4 x5) (val_main_v78 (F := F))
theorem val_main_v79_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224x254.Idx) :
    val_main_v79 (F := F) x0 x1 x2 x3 x4 x5 i = FloatOps.cmpf .oge (val_main_v77 (F := F) x0 x1 x2 x3 x4 x5 i) (val_main_v78 (F := F) i) := rfl

-- %80 = stablehlo.convert %79 : (tensor<6x256x224x254xi1>) -> tensor<6x256x224x254xi32>
def val_main_v80 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224x254, .i32⟩ : BufTy).Contents (Elt F) :=
  extui 32 (val_main_v79 (F := F) x0 x1 x2 x3 x4 x5) natLt_1_32
theorem val_main_v80_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224x254.Idx) :
    val_main_v80 (F := F) x0 x1 x2 x3 x4 x5 i = (val_main_v79 (F := F) x0 x1 x2 x3 x4 x5 i).setWidth 32 := rfl

-- %c_9 = stablehlo.constant dense<0> : tensor<i32>
def val_main_c_9 : (⟨S_, .i32⟩ : BufTy).Contents (Elt F) :=
  constantI S_ 32 0#32
theorem val_main_c_9_apply (i : S_.Idx) :
    val_main_c_9 (F := F) i = 0#32 := rfl

-- %81 = stablehlo.reduce(%80 init: %c_9) applies stablehlo.add across dimensions = [3] : (tensor<6x256x224x254xi32>, tensor<i32>) -> tensor<6x256x224xi32> {
def val_main_v81 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224, .i32⟩ : BufTy).Contents (Elt F) :=
  Host.reduce IntOp.addi (val_main_v80 (F := F) x0 x1 x2 x3 x4 x5) (val_main_c_9 (F := F)) reducesTo_S6x256x224x254_S6x256x224_d3 h_S_

-- %c_10 = stablehlo.constant dense<126> : tensor<i32>
def val_main_c_10 : (⟨S_, .i32⟩ : BufTy).Contents (Elt F) :=
  constantI S_ 32 126#32
theorem val_main_c_10_apply (i : S_.Idx) :
    val_main_c_10 (F := F) i = 126#32 := rfl

-- %82 = stablehlo.broadcast_in_dim %c_10, dims = [] : (tensor<i32>) -> tensor<6x256x224xi32>
def val_main_v82 : (⟨S6x256x224, .i32⟩ : BufTy).Contents (Elt F) :=
  broadcastInDim S6x256x224 ![] bcast_S_S6x256x224 (val_main_c_10 (F := F))
abbrev idx_main_v82 (i : S6x256x224.Idx) : S_.Idx := fun a => a.elim0
theorem val_main_v82_apply (i : S6x256x224.Idx) :
    val_main_v82 (F := F) i = val_main_c_10 (F := F) (idx_main_v82 i) := by
  unfold val_main_v82
  generalize val_main_c_10 (F := F) = y
  exact broadcastInDim_apply _ bcast_S_S6x256x224 y i (idx_main_v82 i) (fun a => a.elim0)

-- %83 = stablehlo.subtract %81, %82 : tensor<6x256x224xi32>
def val_main_v83 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224, .i32⟩ : BufTy).Contents (Elt F) :=
  subi (val_main_v81 (F := F) x0 x1 x2 x3 x4 x5) (val_main_v82 (F := F))
theorem val_main_v83_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224.Idx) :
    val_main_v83 (F := F) x0 x1 x2 x3 x4 x5 i = IntOp.subi (val_main_v81 (F := F) x0 x1 x2 x3 x4 x5 i) (val_main_v82 (F := F) i) := rfl

-- %cst_11 = stablehlo.constant dense<0.000000e+00> : tensor<f32>
def val_main_cst_11 : (⟨S_, .f32⟩ : BufTy).Contents (Elt F) :=
  constant S_ .f32 0x00000000#32
theorem val_main_cst_11_apply (i : S_.Idx) :
    val_main_cst_11 (F := F) i = FloatOps.ofBits .f32 0x00000000#32 := rfl

-- %84 = stablehlo.broadcast_in_dim %cst_11, dims = [] : (tensor<f32>) -> tensor<6x256x224xf32>
def val_main_v84 : (⟨S6x256x224, .f32⟩ : BufTy).Contents (Elt F) :=
  broadcastInDim S6x256x224 ![] bcast_S_S6x256x224 (val_main_cst_11 (F := F))
abbrev idx_main_v84 (i : S6x256x224.Idx) : S_.Idx := fun a => a.elim0
theorem val_main_v84_apply (i : S6x256x224.Idx) :
    val_main_v84 (F := F) i = val_main_cst_11 (F := F) (idx_main_v84 i) := by
  unfold val_main_v84
  generalize val_main_cst_11 (F := F) = y
  exact broadcastInDim_apply _ bcast_S_S6x256x224 y i (idx_main_v84 i) (fun a => a.elim0)

-- %85 = stablehlo.compare EQ, %66, %84, FLOAT : (tensor<6x256x224xf32>, tensor<6x256x224xf32>) -> tensor<6x256x224xi1>
def val_main_v85 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224, .i1⟩ : BufTy).Contents (Elt F) :=
  cmpf .oeq (val_main_v66 (F := F) x0 x1 x2 x3 x4 x5) (val_main_v84 (F := F))
theorem val_main_v85_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224.Idx) :
    val_main_v85 (F := F) x0 x1 x2 x3 x4 x5 i = FloatOps.cmpf .oeq (val_main_v66 (F := F) x0 x1 x2 x3 x4 x5 i) (val_main_v84 (F := F) i) := rfl

-- %c_12 = stablehlo.constant dense<0> : tensor<i32>
def val_main_c_12 : (⟨S_, .i32⟩ : BufTy).Contents (Elt F) :=
  constantI S_ 32 0#32
theorem val_main_c_12_apply (i : S_.Idx) :
    val_main_c_12 (F := F) i = 0#32 := rfl

-- @_where's %0 = stablehlo.convert %arg1 : tensor<i32>, in %86 = func.call @_where(…) (record main_call0)
def val_main_call0_v0 : (⟨S_, .i32⟩ : BufTy).Contents (Elt F) :=
  id (val_main_c_12 (F := F))
theorem val_main_call0_v0_apply (i : S_.Idx) :
    val_main_call0_v0 (F := F) i = (val_main_c_12 (F := F) i) := rfl

-- @_where's %1 = stablehlo.broadcast_in_dim %0, dims = [] : (tensor<i32>) -> tensor<6x256x224xi32>, in %86 = func.call @_where(…) (record main_call0)
def val_main_call0_v1 : (⟨S6x256x224, .i32⟩ : BufTy).Contents (Elt F) :=
  broadcastInDim S6x256x224 ![] bcast_S_S6x256x224 (val_main_call0_v0 (F := F))
abbrev idx_main_call0_v1 (i : S6x256x224.Idx) : S_.Idx := fun a => a.elim0
theorem val_main_call0_v1_apply (i : S6x256x224.Idx) :
    val_main_call0_v1 (F := F) i = val_main_call0_v0 (F := F) (idx_main_call0_v1 i) := by
  unfold val_main_call0_v1
  generalize val_main_call0_v0 (F := F) = y
  exact broadcastInDim_apply _ bcast_S_S6x256x224 y i (idx_main_call0_v1 i) (fun a => a.elim0)

-- %86 = func.call @_where(…) (record main_call0) result 0: @_where's %2 = stablehlo.select %arg0, %1, %arg2 : tensor<6x256x224xi1>, tensor<6x256x224xi32>
def val_main_v86 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224, .i32⟩ : BufTy).Contents (Elt F) :=
  select (val_main_v85 (F := F) x0 x1 x2 x3 x4 x5) (val_main_call0_v1 (F := F)) (val_main_v83 (F := F) x0 x1 x2 x3 x4 x5)
theorem val_main_v86_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224.Idx) :
    val_main_v86 (F := F) x0 x1 x2 x3 x4 x5 i = Scalar.select (val_main_v85 (F := F) x0 x1 x2 x3 x4 x5 i) (val_main_call0_v1 (F := F) i) (val_main_v83 (F := F) x0 x1 x2 x3 x4 x5 i) := rfl

-- %87 = stablehlo.negate %86 : tensor<6x256x224xi32>
def val_main_v87 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224, .i32⟩ : BufTy).Contents (Elt F) :=
  negi (val_main_v86 (F := F) x0 x1 x2 x3 x4 x5)
theorem val_main_v87_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224.Idx) :
    val_main_v87 (F := F) x0 x1 x2 x3 x4 x5 i = -(val_main_v86 (F := F) x0 x1 x2 x3 x4 x5 i) := rfl

-- %88 = stablehlo.convert %87 : (tensor<6x256x224xi32>) -> tensor<6x256x224xf32>
def val_main_v88 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224, .f32⟩ : BufTy).Contents (Elt F) :=
  sitofp .f32 (val_main_v87 (F := F) x0 x1 x2 x3 x4 x5)
theorem val_main_v88_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224.Idx) :
    val_main_v88 (F := F) x0 x1 x2 x3 x4 x5 i = FloatOps.sitofp .f32 (val_main_v87 (F := F) x0 x1 x2 x3 x4 x5 i) := rfl

-- %cst_13 = stablehlo.constant dense<2.000000e+00> : tensor<f32>
def val_main_cst_13 : (⟨S_, .f32⟩ : BufTy).Contents (Elt F) :=
  constant S_ .f32 0x40000000#32
theorem val_main_cst_13_apply (i : S_.Idx) :
    val_main_cst_13 (F := F) i = FloatOps.ofBits .f32 0x40000000#32 := rfl

-- %89 = stablehlo.broadcast_in_dim %cst_13, dims = [] : (tensor<f32>) -> tensor<6x256x224xf32>
def val_main_v89 : (⟨S6x256x224, .f32⟩ : BufTy).Contents (Elt F) :=
  broadcastInDim S6x256x224 ![] bcast_S_S6x256x224 (val_main_cst_13 (F := F))
abbrev idx_main_v89 (i : S6x256x224.Idx) : S_.Idx := fun a => a.elim0
theorem val_main_v89_apply (i : S6x256x224.Idx) :
    val_main_v89 (F := F) i = val_main_cst_13 (F := F) (idx_main_v89 i) := by
  unfold val_main_v89
  generalize val_main_cst_13 (F := F) = y
  exact broadcastInDim_apply _ bcast_S_S6x256x224 y i (idx_main_v89 i) (fun a => a.elim0)

-- %90 = stablehlo.power %89, %88 : tensor<6x256x224xf32>
def val_main_v90 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224, .f32⟩ : BufTy).Contents (Elt F) :=
  Host.powf (val_main_v89 (F := F)) (val_main_v88 (F := F) x0 x1 x2 x3 x4 x5)
theorem val_main_v90_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224.Idx) :
    val_main_v90 (F := F) x0 x1 x2 x3 x4 x5 i = FloatOps.hostPowf (val_main_v89 (F := F) i) (val_main_v88 (F := F) x0 x1 x2 x3 x4 x5 i) := rfl

-- %91 = stablehlo.broadcast_in_dim %90, dims = [0, 1, 2] : (tensor<6x256x224xf32>) -> tensor<6x256x224x1xf32>
def val_main_v91 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224x1, .f32⟩ : BufTy).Contents (Elt F) :=
  broadcastInDim S6x256x224x1 ![0, 1, 2] bcast_S6x256x224_S6x256x224x1_0_1_2 (val_main_v90 (F := F) x0 x1 x2 x3 x4 x5)
abbrev idx_main_v91 (i : S6x256x224x1.Idx) : S6x256x224.Idx := fun a => match a with
  | ⟨0, _⟩ => ⟨(i 0).val, (i 0).isLt⟩
  | ⟨1, _⟩ => ⟨(i 1).val, (i 1).isLt⟩
  | ⟨2, _⟩ => ⟨(i 2).val, (i 2).isLt⟩
theorem val_main_v91_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224x1.Idx) :
    val_main_v91 (F := F) x0 x1 x2 x3 x4 x5 i = val_main_v90 (F := F) x0 x1 x2 x3 x4 x5 (idx_main_v91 i) := by
  unfold val_main_v91
  generalize val_main_v90 (F := F) x0 x1 x2 x3 x4 x5 = y
  exact broadcastInDim_apply _ bcast_S6x256x224_S6x256x224x1_0_1_2 y i (idx_main_v91 i) (fun a => match a with
    | ⟨0, _⟩ => by show (i 0).val = if (6 : Nat) = 1 then 0 else (i 0).val; rw [if_neg (by decide)]
    | ⟨1, _⟩ => by show (i 1).val = if (256 : Nat) = 1 then 0 else (i 1).val; rw [if_neg (by decide)]
    | ⟨2, _⟩ => by show (i 2).val = if (224 : Nat) = 1 then 0 else (i 2).val; rw [if_neg (by decide)])

-- %92 = stablehlo.broadcast_in_dim %91, dims = [0, 1, 2, 3] : (tensor<6x256x224x1xf32>) -> tensor<6x256x224x32xf32>
def val_main_v92 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224x32, .f32⟩ : BufTy).Contents (Elt F) :=
  broadcastInDim S6x256x224x32 ![0, 1, 2, 3] bcast_S6x256x224x1_S6x256x224x32_0_1_2_3 (val_main_v91 (F := F) x0 x1 x2 x3 x4 x5)
abbrev idx_main_v92 (i : S6x256x224x32.Idx) : S6x256x224x1.Idx := fun a => match a with
  | ⟨0, _⟩ => ⟨(i 0).val, (i 0).isLt⟩
  | ⟨1, _⟩ => ⟨(i 1).val, (i 1).isLt⟩
  | ⟨2, _⟩ => ⟨(i 2).val, (i 2).isLt⟩
  | ⟨3, _⟩ => ⟨0, Nat.one_pos⟩
theorem val_main_v92_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224x32.Idx) :
    val_main_v92 (F := F) x0 x1 x2 x3 x4 x5 i = val_main_v91 (F := F) x0 x1 x2 x3 x4 x5 (idx_main_v92 i) := by
  unfold val_main_v92
  generalize val_main_v91 (F := F) x0 x1 x2 x3 x4 x5 = y
  exact broadcastInDim_apply _ bcast_S6x256x224x1_S6x256x224x32_0_1_2_3 y i (idx_main_v92 i) (fun a => match a with
    | ⟨0, _⟩ => by show (i 0).val = if (6 : Nat) = 1 then 0 else (i 0).val; rw [if_neg (by decide)]
    | ⟨1, _⟩ => by show (i 1).val = if (256 : Nat) = 1 then 0 else (i 1).val; rw [if_neg (by decide)]
    | ⟨2, _⟩ => by show (i 2).val = if (224 : Nat) = 1 then 0 else (i 2).val; rw [if_neg (by decide)]
    | ⟨3, _⟩ => by show 0 = if (1 : Nat) = 1 then 0 else (i 3).val; rw [if_pos rfl])

-- %93 = stablehlo.multiply %64, %92 : tensor<6x256x224x32xf32>
def val_main_v93 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224x32, .f32⟩ : BufTy).Contents (Elt F) :=
  mulf (val_main_v64 (F := F) x0 x1 x2 x3 x4 x5) (val_main_v92 (F := F) x0 x1 x2 x3 x4 x5)
theorem val_main_v93_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224x32.Idx) :
    val_main_v93 (F := F) x0 x1 x2 x3 x4 x5 i = FloatOps.mulf (val_main_v64 (F := F) x0 x1 x2 x3 x4 x5 i) (val_main_v92 (F := F) x0 x1 x2 x3 x4 x5 i) := rfl

-- %cst_14 = stablehlo.constant dense<-4.480000e+02> : tensor<f32>
def val_main_cst_14 : (⟨S_, .f32⟩ : BufTy).Contents (Elt F) :=
  constant S_ .f32 0xC3E00000#32
theorem val_main_cst_14_apply (i : S_.Idx) :
    val_main_cst_14 (F := F) i = FloatOps.ofBits .f32 0xC3E00000#32 := rfl

-- %cst_15 = stablehlo.constant dense<4.480000e+02> : tensor<f32>
def val_main_cst_15 : (⟨S_, .f32⟩ : BufTy).Contents (Elt F) :=
  constant S_ .f32 0x43E00000#32
theorem val_main_cst_15_apply (i : S_.Idx) :
    val_main_cst_15 (F := F) i = FloatOps.ofBits .f32 0x43E00000#32 := rfl

-- @clip's %0 = stablehlo.convert %arg1 : tensor<f32>, in %94 = func.call @clip(…) (record main_call1)
def val_main_call1_v0 : (⟨S_, .f32⟩ : BufTy).Contents (Elt F) :=
  id (val_main_cst_14 (F := F))
theorem val_main_call1_v0_apply (i : S_.Idx) :
    val_main_call1_v0 (F := F) i = (val_main_cst_14 (F := F) i) := rfl

-- @clip's %1 = stablehlo.broadcast_in_dim %0, dims = [] : (tensor<f32>) -> tensor<6x256x224x32xf32>, in %94 = func.call @clip(…) (record main_call1)
def val_main_call1_v1 : (⟨S6x256x224x32, .f32⟩ : BufTy).Contents (Elt F) :=
  broadcastInDim S6x256x224x32 ![] bcast_S_S6x256x224x32 (val_main_call1_v0 (F := F))
abbrev idx_main_call1_v1 (i : S6x256x224x32.Idx) : S_.Idx := fun a => a.elim0
theorem val_main_call1_v1_apply (i : S6x256x224x32.Idx) :
    val_main_call1_v1 (F := F) i = val_main_call1_v0 (F := F) (idx_main_call1_v1 i) := by
  unfold val_main_call1_v1
  generalize val_main_call1_v0 (F := F) = y
  exact broadcastInDim_apply _ bcast_S_S6x256x224x32 y i (idx_main_call1_v1 i) (fun a => a.elim0)

-- @clip's %2 = stablehlo.maximum %1, %arg0 : tensor<6x256x224x32xf32>, in %94 = func.call @clip(…) (record main_call1)
def val_main_call1_v2 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224x32, .f32⟩ : BufTy).Contents (Elt F) :=
  maximumf (val_main_call1_v1 (F := F)) (val_main_v93 (F := F) x0 x1 x2 x3 x4 x5)
theorem val_main_call1_v2_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224x32.Idx) :
    val_main_call1_v2 (F := F) x0 x1 x2 x3 x4 x5 i = FloatOps.maximumf (val_main_call1_v1 (F := F) i) (val_main_v93 (F := F) x0 x1 x2 x3 x4 x5 i) := rfl

-- @clip's %3 = stablehlo.convert %arg2 : tensor<f32>, in %94 = func.call @clip(…) (record main_call1)
def val_main_call1_v3 : (⟨S_, .f32⟩ : BufTy).Contents (Elt F) :=
  id (val_main_cst_15 (F := F))
theorem val_main_call1_v3_apply (i : S_.Idx) :
    val_main_call1_v3 (F := F) i = (val_main_cst_15 (F := F) i) := rfl

-- @clip's %4 = stablehlo.broadcast_in_dim %3, dims = [] : (tensor<f32>) -> tensor<6x256x224x32xf32>, in %94 = func.call @clip(…) (record main_call1)
def val_main_call1_v4 : (⟨S6x256x224x32, .f32⟩ : BufTy).Contents (Elt F) :=
  broadcastInDim S6x256x224x32 ![] bcast_S_S6x256x224x32 (val_main_call1_v3 (F := F))
abbrev idx_main_call1_v4 (i : S6x256x224x32.Idx) : S_.Idx := fun a => a.elim0
theorem val_main_call1_v4_apply (i : S6x256x224x32.Idx) :
    val_main_call1_v4 (F := F) i = val_main_call1_v3 (F := F) (idx_main_call1_v4 i) := by
  unfold val_main_call1_v4
  generalize val_main_call1_v3 (F := F) = y
  exact broadcastInDim_apply _ bcast_S_S6x256x224x32 y i (idx_main_call1_v4 i) (fun a => a.elim0)

-- %94 = func.call @clip(…) (record main_call1) result 0: @clip's %5 = stablehlo.minimum %4, %2 : tensor<6x256x224x32xf32>
def val_main_v94 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224x32, .f32⟩ : BufTy).Contents (Elt F) :=
  minimumf (val_main_call1_v4 (F := F)) (val_main_call1_v2 (F := F) x0 x1 x2 x3 x4 x5)
theorem val_main_v94_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224x32.Idx) :
    val_main_v94 (F := F) x0 x1 x2 x3 x4 x5 i = FloatOps.minimumf (val_main_call1_v4 (F := F) i) (val_main_call1_v2 (F := F) x0 x1 x2 x3 x4 x5 i) := rfl

-- %95 = stablehlo.reshape %94 : (tensor<6x256x224x32xf32>) -> tensor<6x256x7168xf32>
def val_main_v95 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x7168, .f32⟩ : BufTy).Contents (Elt F) :=
  shapeCast _ (val_main_v94 (F := F) x0 x1 x2 x3 x4 x5) shapeCasts_S6x256x224x32_S6x256x7168
set_option backward.proofsInPublic true in
abbrev idx_main_v95 (i : S6x256x7168.Idx) : S6x256x224x32.Idx := fun a => match a with
  | ⟨0, _⟩ => ⟨(((i 0).val * 256 + (i 1).val) * 7168 + (i 2).val) / 1835008, by have h0 : (i 0).val < 6 := (i 0).isLt; have h1 : (i 1).val < 256 := (i 1).isLt; have h2 : (i 2).val < 7168 := (i 2).isLt; show (((i 0).val * 256 + (i 1).val) * 7168 + (i 2).val) / 1835008 < 6; omega⟩
  | ⟨1, _⟩ => ⟨(((i 0).val * 256 + (i 1).val) * 7168 + (i 2).val) / 7168 % 256, by have h0 : (i 0).val < 6 := (i 0).isLt; have h1 : (i 1).val < 256 := (i 1).isLt; have h2 : (i 2).val < 7168 := (i 2).isLt; show (((i 0).val * 256 + (i 1).val) * 7168 + (i 2).val) / 7168 % 256 < 256; omega⟩
  | ⟨2, _⟩ => ⟨(((i 0).val * 256 + (i 1).val) * 7168 + (i 2).val) / 32 % 224, by have h0 : (i 0).val < 6 := (i 0).isLt; have h1 : (i 1).val < 256 := (i 1).isLt; have h2 : (i 2).val < 7168 := (i 2).isLt; show (((i 0).val * 256 + (i 1).val) * 7168 + (i 2).val) / 32 % 224 < 224; omega⟩
  | ⟨3, _⟩ => ⟨(((i 0).val * 256 + (i 1).val) * 7168 + (i 2).val) % 32, by have h0 : (i 0).val < 6 := (i 0).isLt; have h1 : (i 1).val < 256 := (i 1).isLt; have h2 : (i 2).val < 7168 := (i 2).isLt; show (((i 0).val * 256 + (i 1).val) * 7168 + (i 2).val) % 32 < 32; omega⟩
theorem val_main_v95_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x7168.Idx) :
    val_main_v95 (F := F) x0 x1 x2 x3 x4 x5 i = val_main_v94 (F := F) x0 x1 x2 x3 x4 x5 (idx_main_v95 i) := by
  unfold val_main_v95
  generalize val_main_v94 (F := F) x0 x1 x2 x3 x4 x5 = y
  exact shapeCast_apply y shapeCasts_S6x256x224x32_S6x256x7168 i (idx_main_v95 i)
    (by rewrite [Shape.rowMajor_val_four, Shape.rowMajor_val_three]; have h0 : (i 0).val < 6 := (i 0).isLt; have h1 : (i 1).val < 256 := (i 1).isLt; have h2 : (i 2).val < 7168 := (i 2).isLt; show (((((i 0).val * 256 + (i 1).val) * 7168 + (i 2).val) / 1835008 * 256 + (((i 0).val * 256 + (i 1).val) * 7168 + (i 2).val) / 7168 % 256) * 224 + (((i 0).val * 256 + (i 1).val) * 7168 + (i 2).val) / 32 % 224) * 32 + (((i 0).val * 256 + (i 1).val) * 7168 + (i 2).val) % 32 = ((i 0).val * 256 + (i 1).val) * 7168 + (i 2).val; omega)

-- %c_16 = stablehlo.constant dense<127> : tensor<i32>
def val_main_c_16 : (⟨S_, .i32⟩ : BufTy).Contents (Elt F) :=
  constantI S_ 32 127#32
theorem val_main_c_16_apply (i : S_.Idx) :
    val_main_c_16 (F := F) i = 127#32 := rfl

-- %96 = stablehlo.broadcast_in_dim %c_16, dims = [] : (tensor<i32>) -> tensor<6x256x224xi32>
def val_main_v96 : (⟨S6x256x224, .i32⟩ : BufTy).Contents (Elt F) :=
  broadcastInDim S6x256x224 ![] bcast_S_S6x256x224 (val_main_c_16 (F := F))
abbrev idx_main_v96 (i : S6x256x224.Idx) : S_.Idx := fun a => a.elim0
theorem val_main_v96_apply (i : S6x256x224.Idx) :
    val_main_v96 (F := F) i = val_main_c_16 (F := F) (idx_main_v96 i) := by
  unfold val_main_v96
  generalize val_main_c_16 (F := F) = y
  exact broadcastInDim_apply _ bcast_S_S6x256x224 y i (idx_main_v96 i) (fun a => a.elim0)

-- %97 = stablehlo.add %86, %96 : tensor<6x256x224xi32>
def val_main_v97 (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) : (⟨S6x256x224, .i32⟩ : BufTy).Contents (Elt F) :=
  addi (val_main_v86 (F := F) x0 x1 x2 x3 x4 x5) (val_main_v96 (F := F))
theorem val_main_v97_apply (x0 : (⟨S6x256x7168, .bf16⟩ : BufTy).Contents (Elt F)) (x1 : (⟨S2, .f32⟩ : BufTy).Contents (Elt F)) (x2 x3 : (⟨S2x6x256, .f32⟩ : BufTy).Contents (Elt F)) (x4 x5 : (⟨S7168, .f32⟩ : BufTy).Contents (Elt F)) (i : S6x256x224.Idx) :
    val_main_v97 (F := F) x0 x1 x2 x3 x4 x5 i = IntOp.addi (val_main_v86 (F := F) x0 x1 x2 x3 x4 x5 i) (val_main_v96 (F := F) i) := rfl

end Cert.ReferenceIdeal.Read

end
-- ==== Proof.RefHost.lean ====
/-
  The host part of the reference: the buffers that its region is entered with, as the values of RefStages.lean.
-/
module

public import proofs.«01_k».proof.Proof.RefStages
public import Idealize.ShloMosaic.Lib.StableHlo.Run

@[expose] public section

set_option maxRecDepth 8192

noncomputable section

namespace Cert.ReferenceIdeal.Read

open Cert.ReferenceIdeal Cert.ReferenceIdeal.Gen Idealize.ShloMosaic Idealize.ShloMosaic.TcCoe Idealize.SL.Sem Idealize.ShloMosaic.StableHlo

variable {F : FTy → Type} [FloatOps F] (m : (ℓ : Loc nD τ sig) → Buf (Elt F) ℓ) (c : Dev nD)

set_option maxHeartbeats 4000000 in
/-- The mean, as the host part leaves it. -/
theorem V_main_v39 : V m c main_v39 = val_main_v39 (F := F) (m ((c.tc : Thread nD τ).loc main_arg0)) (m ((c.tc : Thread nD τ).loc main_arg1)) (m ((c.tc : Thread nD τ).loc main_arg2)) := by
  simp only [V, hostOps0, hostOps0_1, hostOps0_2, hostOps0_3, hostOps0_4, List.flatten_cons, List.flatten_nil, List.append_nil, List.cons_append, List.nil_append, TRef.binary, TRef.ternary, TRef.unary, TRef.toBuf, TRef.ofBuf, cast_eq]
  after_results_simp <;> rfl

set_option maxHeartbeats 4000000 in
/-- The reciprocal standard deviation, as the host part leaves it. -/
theorem V_main_v51 : V m c main_v51 = val_main_v51 (F := F) (m ((c.tc : Thread nD τ).loc main_arg0)) (m ((c.tc : Thread nD τ).loc main_arg1)) (m ((c.tc : Thread nD τ).loc main_arg2)) (m ((c.tc : Thread nD τ).loc main_arg3)) := by
  simp only [V, hostOps0, hostOps0_1, hostOps0_2, hostOps0_3, hostOps0_4, List.flatten_cons, List.flatten_nil, List.append_nil, List.cons_append, List.nil_append, TRef.binary, TRef.ternary, TRef.unary, TRef.toBuf, TRef.ofBuf, cast_eq]
  after_results_simp <;> rfl

set_option maxHeartbeats 40000000 in
/-- The clipped quotients, as the host part leaves them. -/
theorem V_main_v95 : V m c main_v95 = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [V, hostOps0, hostOps0_1, hostOps0_2, hostOps0_3, hostOps0_4, List.flatten_cons, List.flatten_nil, List.append_nil, List.cons_append, List.nil_append, TRef.binary, TRef.ternary, TRef.unary, TRef.toBuf, TRef.ofBuf, cast_eq]
  after_results_simp <;> rfl

set_option maxHeartbeats 40000000 in
/-- The biased exponents, as the host part leaves them. -/
theorem V_main_v97 : V m c main_v97 = val_main_v97 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  simp only [V, hostOps0, hostOps0_1, hostOps0_2, hostOps0_3, hostOps0_4, List.flatten_cons, List.flatten_nil, List.append_nil, List.cons_append, List.nil_append, TRef.binary, TRef.ternary, TRef.unary, TRef.toBuf, TRef.ofBuf, cast_eq]
  after_results_simp <;> rfl

end Cert.ReferenceIdeal.Read

end
-- ==== Proof.RefMean.lean ====
module
public import proofs.«01_k».proof.Proof.RefStages
public import proofs.«01_k».proof.Proof.Result
public import Idealize.ShloMosaic.Lib.Pointwise

/-! What the reference computes, entry by entry: the merged means, the reciprocal standard deviations and the normalised rows. -/

@[expose] public section

noncomputable section
namespace Cert.ReferenceIdeal.Read
open Cert.ReferenceIdeal Cert.ReferenceIdeal.Gen Cert.LN
open Idealize.ShloMosaic Idealize.ShloMosaic.Tactic

/-- The arguments, by entries. -/
def argsOf (x0 : Vec Ideal S6x256x7168 .bf16) (x1 : Vec Ideal S2 .f32) (x2 x3 : Vec Ideal S2x6x256 .f32) (x4 x5 : Vec Ideal S7168 .f32) : Args where
  x b r j := x0 (ix3 b r j)
  n k := x1 (ix1 k)
  p k b r := x2 (ix3 k b r)
  q k b r := x3 (ix3 k b r)
  g j := x4 (ix1 j)
  be j := x5 (ix1 j)

variable (x0 : Vec Ideal S6x256x7168 .bf16) (x1 : Vec Ideal S2 .f32) (x2 x3 : Vec Ideal S2x6x256 .f32) (x4 x5 : Vec Ideal S7168 .f32)

/-- A sum over the columns, from zero, is the sum over the first 7168 numbers. -/
theorem sum_ofRow (f : Fin 7168 → EReal) (w : ℕ → EReal) (h : ∀ j : Fin 7168, f j = w j.val) :
    Ideal.ofBits .f32 0x00000000#32 + ∑ j : Fin 7168, f j = ∑ j ∈ Finset.range 7168, w j := by
  rw [show Ideal.ofBits .f32 0x00000000#32 = 0 by simp, zero_add, Finset.sum_range]
  exact Finset.sum_congr rfl fun j _ => h j

/-- A row read at one of its columns. -/
theorem ofRow_apply (f : Fin 7168 → EReal) (j : Fin 7168) : ofRow f j.val = f j := by
  unfold ofRow; rw [dif_pos j.isLt]

/-- A row's mean. -/
theorem v3_at (b : Fin 6) (r : Fin 256) : val_main_v3 (F := Ideal) x0 (ix2 b r) = meanLoc (ofRow fun j => x0 (ix3 b r j)) := by
  rw [val_main_v3_apply, val_main_v1_apply, val_main_v2_apply, val_main_cst_0_apply]
  unfold meanLoc
  refine congrArg (fun z => Ideal.div z cols) (sum_ofRow _ _ fun j => ?_)
  rw [ofRow_apply, val_main_v0_apply]
  refine congrArg x0 (funext fun a => ?_)
  match a with
  | ⟨0, _⟩ => rfl
  | ⟨1, _⟩ => rfl
  | ⟨2, _⟩ => rfl

/-- A row's sum of squared deviations. -/
theorem v8_at (b : Fin 6) (r : Fin 256) : val_main_v8 (F := Ideal) x0 (ix2 b r) = m2Loc (ofRow fun j => x0 (ix3 b r j)) := by
  rw [val_main_v8_apply]
  unfold m2Loc
  refine sum_ofRow _ (fun j => (ofRow (fun j => x0 (ix3 b r j)) j - meanLoc (ofRow fun j => x0 (ix3 b r j))) * (ofRow (fun j => x0 (ix3 b r j)) j - meanLoc (ofRow fun j => x0 (ix3 b r j)))) fun j => ?_
  have e : val_main_v6 (F := Ideal) x0 (idx_main_v8 (ix2 b r) j) = x0 (ix3 b r j) - meanLoc (ofRow fun j => x0 (ix3 b r j)) := by
    rw [val_main_v6_apply, val_main_v0_apply, val_main_v5_apply, val_main_v4_apply, ← v3_at]
    have e1 : idx_main_v8 (ix2 b r) j = ix3 b r j := by
      funext a
      match a with
      | ⟨0, _⟩ => rfl
      | ⟨1, _⟩ => rfl
      | ⟨2, _⟩ => rfl
    have e2 : idx_main_v4 (idx_main_v5 (idx_main_v8 (ix2 b r) j)) = ix2 b r := by
      funext a
      match a with
      | ⟨0, _⟩ => rfl
      | ⟨1, _⟩ => rfl
    rw [e2, e1]
    rfl
  rw [val_main_v7_apply, e, ofRow_apply]
  rfl

/-- The first peer's count. -/
theorem v10_at (i : S_.Idx) : val_main_v10 (F := Ideal) x1 i = x1 (ix1 0) := by
  unfold val_main_v10
  rw [shapeCast_apply _ shapeCasts_S1_S_ i (ix1 0) (by rfl), val_main_v9_apply]
  refine congrArg x1 (funext fun a => ?_)
  match a with
  | ⟨0, _⟩ => rfl

/-- The second peer's count. -/
theorem v16_at (i : S_.Idx) : val_main_v16 (F := Ideal) x1 i = x1 (ix1 1) := by
  unfold val_main_v16
  rw [shapeCast_apply _ shapeCasts_S1_S_ i (ix1 0) (by rfl), val_main_v15_apply]
  refine congrArg x1 (funext fun a => ?_)
  match a with
  | ⟨0, _⟩ => rfl

/-- The first peer's mean of a row. -/
theorem v12_at (b : Fin 6) (r : Fin 256) : val_main_v12 (F := Ideal) x2 (ix2 b r) = x2 (ix3 0 b r) := by
  rw [val_main_v12_apply, val_main_v11_apply]
  refine congrArg x2 (funext fun a => Fin.ext ?_)
  match a with
  | ⟨0, _⟩ => rfl
  | ⟨1, _⟩ => show (b.val * 256 + r.val) / 256 % 6 = b.val; omega
  | ⟨2, _⟩ => show (b.val * 256 + r.val) % 256 = r.val; omega

/-- The second peer's mean of a row. -/
theorem v18_at (b : Fin 6) (r : Fin 256) : val_main_v18 (F := Ideal) x2 (ix2 b r) = x2 (ix3 1 b r) := by
  rw [val_main_v18_apply, val_main_v17_apply]
  refine congrArg x2 (funext fun a => Fin.ext ?_)
  match a with
  | ⟨0, _⟩ => rfl
  | ⟨1, _⟩ => show (b.val * 256 + r.val) / 256 % 6 = b.val; omega
  | ⟨2, _⟩ => show (b.val * 256 + r.val) % 256 = r.val; omega

/-- The first peer's sum of squares of a row. -/
theorem v14_at (b : Fin 6) (r : Fin 256) : val_main_v14 (F := Ideal) x3 (ix2 b r) = x3 (ix3 0 b r) := by
  rw [val_main_v14_apply, val_main_v13_apply]
  refine congrArg x3 (funext fun a => Fin.ext ?_)
  match a with
  | ⟨0, _⟩ => rfl
  | ⟨1, _⟩ => show (b.val * 256 + r.val) / 256 % 6 = b.val; omega
  | ⟨2, _⟩ => show (b.val * 256 + r.val) % 256 = r.val; omega

/-- The second peer's sum of squares of a row. -/
theorem v20_at (b : Fin 6) (r : Fin 256) : val_main_v20 (F := Ideal) x3 (ix2 b r) = x3 (ix3 1 b r) := by
  rw [val_main_v20_apply, val_main_v19_apply]
  refine congrArg x3 (funext fun a => Fin.ext ?_)
  match a with
  | ⟨0, _⟩ => rfl
  | ⟨1, _⟩ => show (b.val * 256 + r.val) / 256 % 6 = b.val; omega
  | ⟨2, _⟩ => show (b.val * 256 + r.val) % 256 = r.val; omega

/-- The merged mean of a row. -/
theorem v39_at (b : Fin 6) (r : Fin 256) : val_main_v39 (F := Ideal) x0 x1 x2 (ix2 b r) = (argsOf x0 x1 x2 x3 x4 x5).mean b r := by
  simp only [val_main_v39_apply, val_main_v38_apply, val_main_v37_apply, val_main_v36_apply, val_main_v35_apply, val_main_v34_apply,
    val_main_v26_apply, val_main_v25_apply, val_main_v24_apply, val_main_v23_apply, val_main_v22_apply, val_main_v21_apply,
    val_main_cst_2_apply, val_main_cst_3_apply, v3_at, v10_at, v16_at, v12_at, v18_at]
  rfl

/-- The merged reciprocal standard deviation of a row. -/
theorem v51_at (b : Fin 6) (r : Fin 256) : val_main_v51 (F := Ideal) x0 x1 x2 x3 (ix2 b r) = (argsOf x0 x1 x2 x3 x4 x5).rstd b r := by
  simp only [val_main_v51_apply, val_main_v50_apply, val_main_v49_apply, val_main_v48_apply, val_main_v47_apply, val_main_v46_apply, val_main_v45_apply,
    val_main_v44_apply, val_main_v43_apply, val_main_v42_apply, val_main_v41_apply, val_main_v40_apply, val_main_v33_apply, val_main_v32_apply,
    val_main_v31_apply, val_main_v30_apply, val_main_v29_apply, val_main_v28_apply, val_main_v27_apply, val_main_v35_apply, val_main_v34_apply,
    val_main_v26_apply, val_main_v25_apply, val_main_v24_apply, val_main_v23_apply, val_main_v22_apply, val_main_v21_apply,
    val_main_cst_2_apply, val_main_cst_3_apply, val_main_cst_4_apply, val_main_cst_5_apply, v3_at, v8_at, v10_at, v16_at, v12_at, v18_at, v14_at, v20_at]
  rfl

/-- An entry of the normalised row. -/
theorem v63_at (b : Fin 6) (r : Fin 256) (j : Fin 7168) :
    val_main_v63 (F := Ideal) x0 x1 x2 x3 x4 x5 (ix3 b r j) = (argsOf x0 x1 x2 x3 x4 x5).row b r j.val := by
  have e1 : idx_main_v52 (idx_main_v53 (ix3 b r j)) = ix2 b r := by
    funext a
    match a with
    | ⟨0, _⟩ => rfl
    | ⟨1, _⟩ => rfl
  have e2 : idx_main_v55 (idx_main_v56 (ix3 b r j)) = ix2 b r := by
    funext a
    match a with
    | ⟨0, _⟩ => rfl
    | ⟨1, _⟩ => rfl
  have e3 : idx_main_v58 (idx_main_v59 (ix3 b r j)) = ix1 j := by
    funext a
    match a with
    | ⟨0, _⟩ => rfl
  have e4 : idx_main_v61 (idx_main_v62 (ix3 b r j)) = ix1 j := by
    funext a
    match a with
    | ⟨0, _⟩ => rfl
  simp only [val_main_v63_apply, val_main_v62_apply, val_main_v61_apply, val_main_v60_apply, val_main_v59_apply, val_main_v58_apply,
    val_main_v57_apply, val_main_v56_apply, val_main_v55_apply, val_main_v54_apply, val_main_v53_apply, val_main_v52_apply, val_main_v0_apply,
    e1, e2, e3, e4, v39_at x0 x1 x2 x3 x4 x5, v51_at x0 x1 x2 x3 x4 x5]
  unfold Args.row normed
  rw [ofRow_apply, ofRow_apply, ofRow_apply]
  rfl

end Cert.ReferenceIdeal.Read
end
-- ==== Proof.Quant.lean ====
module
public import proofs.«01_k».proof.Proof.Spec

/-! The quantiser's constants and its exponent where the rows are bounded: the largest absolute value of a block is at most the largest
    f32, so that the threshold stays below two to the power 126. -/

@[expose] public section

noncomputable section
namespace Cert.LN
open Idealize.ShloMosaic

/-- The constant two. -/
theorem ofBits_two : Ideal.ofBits .f32 0x40000000#32 = ((2 : ℝ) : EReal) := by
  have e : (0x40000000#32 : BitVec 32) = IntOp.shli .vector (BitVec.ofNat 32 128) 23#32 := by decide +kernel
  rw [e, ofBits_field 128 (by omega) (by omega)]
  refine congrArg Real.toEReal ?_
  norm_num

/-- The largest f32. -/
abbrev top32 : EReal := Ideal.ofBits .f32 0x7F7FFFFF#32

/-- The largest f32 as a real. -/
theorem top32_eq : top32 = (((2 ^ 24 - 1 : ℝ) * 2 ^ (104 : ℤ) : ℝ) : EReal) := by
  have hs : ((0x7F7FFFFF#32 : BitVec 32).extractLsb' (8 + 23) 1 == 1#1) = false := by decide +kernel
  have he : ((0x7F7FFFFF#32 : BitVec 32).extractLsb' 23 8).toNat = 254 := by decide +kernel
  have hf : ((0x7F7FFFFF#32 : BitVec 32).extractLsb' 0 23).toNat = 8388607 := by decide +kernel
  show Ideal.ofBits .f32 0x7F7FFFFF#32 = _
  rw [ofBits_ieee]
  unfold Ideal.ieee
  simp only [hs, he, hf]
  rw [if_neg (by norm_num), if_neg (by omega)]
  refine congrArg Real.toEReal ?_
  simp only [Bool.false_eq_true, if_false, one_mul]
  norm_num

/-- The constant 1/448, rounded to f32, as a real. -/
theorem c448_eq : c448 = (((9586981 : ℝ) * 2 ^ (-32 : ℤ) : ℝ) : EReal) := by
  have hs : ((0x3B124925#32 : BitVec 32).extractLsb' (8 + 23) 1 == 1#1) = false := by decide +kernel
  have he : ((0x3B124925#32 : BitVec 32).extractLsb' 23 8).toNat = 118 := by decide +kernel
  have hf : ((0x3B124925#32 : BitVec 32).extractLsb' 0 23).toNat = 1198373 := by decide +kernel
  show Ideal.ofBits .f32 0x3B124925#32 = _
  rw [ofBits_ieee]
  unfold Ideal.ieee
  simp only [hs, he, hf]
  rw [if_neg (by norm_num), if_neg (by omega)]
  refine congrArg Real.toEReal ?_
  simp only [Bool.false_eq_true, if_false, one_mul]
  norm_num

/-- The constant minus infinity. -/
theorem ofBits_bot : Ideal.ofBits .f32 0xFF800000#32 = ⊥ := by
  have hs : ((0xFF800000#32 : BitVec 32).extractLsb' (8 + 23) 1 == 1#1) = true := by decide +kernel
  have he : ((0xFF800000#32 : BitVec 32).extractLsb' 23 8).toNat = 255 := by decide +kernel
  have hf : ((0xFF800000#32 : BitVec 32).extractLsb' 0 23).toNat = 0 := by decide +kernel
  rw [ofBits_ieee]
  unfold Ideal.ieee
  simp only [hs, he, hf]
  rfl

/-- The factor is positive. -/
theorem c448_pos : 0 < c448 := by
  rw [c448_eq, ← EReal.coe_zero, EReal.coe_lt_coe_iff]
  positivity

/-- The threshold is zero exactly where the largest absolute value is. -/
theorem mul_c448_eq_zero (a : EReal) : a * c448 = 0 ↔ a = 0 := by
  rw [mul_eq_zero]
  exact ⟨fun h => h.resolve_right c448_pos.ne', Or.inl⟩

/-- A bounded block's largest absolute value is bounded. -/
theorem amax_le (y : ℕ → EReal) (h : ∀ k : Fin 32, max (y k.val) (-(y k.val)) ≤ top32) : amax y ≤ top32 := by
  unfold amax
  rw [Finset.fold_max_le]
  exact ⟨by rw [ofBits_bot]; exact bot_le, fun k _ => h k⟩

/-- A bounded block's threshold is below two to the power 126. -/
theorem thr_of_le (a : EReal) (h : a ≤ top32) : a * c448 < thr 252 := by
  refine lt_of_le_of_lt (mul_le_mul_of_nonneg_right h c448_pos.le) ?_
  rw [top32_eq, c448_eq, ← EReal.coe_mul, thr, EReal.coe_lt_coe_iff]
  norm_num

/-- The thresholds, as powers of two. -/
theorem pow_thr (i : Fin 254) :
    Ideal.pow (Ideal.ofBits .f32 0x40000000#32) ((((IntOp.addi 4294967170#32 (BitVec.ofNat 32 i.val)).toInt : ℝ)) : EReal) = thr i.val := by
  have e : ∀ i : Fin 254, (IntOp.addi 4294967170#32 (BitVec.ofNat 32 i.val)).toInt = (i.val : ℤ) - 126 := by decide +kernel
  rw [e i, ofBits_two, Ideal.pow_coe_coe, Real.rpow_eq_pow, Real.rpow_intCast]
  rfl

/-- The factor of a bounded block. -/
theorem pow_recip (t : EReal) (h : t < thr 252) :
    Ideal.pow (Ideal.ofBits .f32 0x40000000#32) ((((-(expo t)).toInt : ℝ)) : EReal) = recip (expo t) := by
  rw [recip_expo t h, ofBits_two]

end Cert.LN
end
-- ==== Proof.RefQuant.lean ====
module
public import proofs.«01_k».proof.Proof.RefMean
public import proofs.«01_k».proof.Proof.Quant
public import Idealize.ShloMosaic.Lib.IndicatorCount

/-! What the reference computes, entry by entry: the exponents, the factors, the codes and the scales of bounded rows. -/

@[expose] public section

noncomputable section
namespace Cert.ReferenceIdeal.Read
open Cert.ReferenceIdeal Cert.ReferenceIdeal.Gen Cert.LN
open Idealize.ShloMosaic Idealize.ShloMosaic.Tactic

variable (x0 : Vec Ideal S6x256x7168 .bf16) (x1 : Vec Ideal S2 .f32) (x2 x3 : Vec Ideal S2x6x256 .f32) (x4 x5 : Vec Ideal S7168 .f32)

/-- An entry of the rows in blocks of 32. -/
theorem v64_at (b : Fin 6) (r : Fin 256) (n : Fin 224) (k : Fin 32) :
    val_main_v64 (F := Ideal) x0 x1 x2 x3 x4 x5 (ix4 b r n k) = (argsOf x0 x1 x2 x3 x4 x5).row b r (32 * n.val + k.val) := by
  have hk : 32 * n.val + k.val < 7168 := by omega
  rw [val_main_v64_apply, ← v63_at x0 x1 x2 x3 x4 x5 b r ⟨32 * n.val + k.val, hk⟩]
  refine congrArg (val_main_v63 (F := Ideal) x0 x1 x2 x3 x4 x5) (funext fun a => Fin.ext ?_)
  match a with
  | ⟨0, _⟩ => show (((b.val * 256 + r.val) * 224 + n.val) * 32 + k.val) / 1835008 = b.val; omega
  | ⟨1, _⟩ => show (((b.val * 256 + r.val) * 224 + n.val) * 32 + k.val) / 7168 % 256 = r.val; omega
  | ⟨2, _⟩ => show (((b.val * 256 + r.val) * 224 + n.val) * 32 + k.val) % 7168 = 32 * n.val + k.val; omega

/-- A block's largest absolute value. -/
theorem v66_at (b : Fin 6) (r : Fin 256) (n : Fin 224) :
    val_main_v66 (F := Ideal) x0 x1 x2 x3 x4 x5 (ix3 b r n) = amax fun k => (argsOf x0 x1 x2 x3 x4 x5).row b r (32 * n.val + k) := by
  have e : ∀ k : Fin 32, val_main_v65 (F := Ideal) x0 x1 x2 x3 x4 x5 (ix4 b r n k)
      = max ((argsOf x0 x1 x2 x3 x4 x5).row b r (32 * n.val + k.val)) (-((argsOf x0 x1 x2 x3 x4 x5).row b r (32 * n.val + k.val))) := by
    intro k
    rw [val_main_v65_apply, v64_at]
    rfl
  unfold val_main_v66 amax
  generalize val_main_v65 (F := Ideal) x0 x1 x2 x3 x4 x5 = y at e
  rw [Host.reduce_eq_fold_single (FloatOps.maximumf (F := Ideal) (φ := .f32)) y _ reducesTo_S6x256x224x32_S6x256x224_d3 (by decide) h_S_]
  refine (Finset.fold_congr (f := _) (g := fun k : Fin 32 => max ((argsOf x0 x1 x2 x3 x4 x5).row b r (32 * n.val + k.val)) (-((argsOf x0 x1 x2 x3 x4 x5).row b r (32 * n.val + k.val)))) fun k _ => ?_).trans ?_
  · refine Eq.trans (congrArg y (funext fun a => Fin.ext ?_)) (e k)
    match a with
    | ⟨0, _⟩ => rfl
    | ⟨1, _⟩ => rfl
    | ⟨2, _⟩ => rfl
    | ⟨3, _⟩ => rfl
  · rfl

/-- A block's threshold. -/
theorem v68_at (b : Fin 6) (r : Fin 256) (n : Fin 224) :
    val_main_v68 (F := Ideal) x0 x1 x2 x3 x4 x5 (ix3 b r n) = tOf ((argsOf x0 x1 x2 x3 x4 x5).row b r) n.val := by
  rw [val_main_v68_apply, v66_at, val_main_v67_apply, val_main_cst_7_apply]
  rfl

/-- The powers of two. -/
theorem v74_at (i : Fin 254) : val_main_v74 (F := Ideal) (ix1 i) = thr i.val := by
  simp only [val_main_v74_apply, val_main_v73_apply, val_main_cst_8_apply, val_main_v72_apply, val_main_v71_apply, val_main_v70_apply, val_main_c_apply, val_main_v69_apply]
  exact pow_thr i

/-- How many powers of two a block's threshold reaches. -/
theorem v81_at (b : Fin 6) (r : Fin 256) (n : Fin 224) :
    val_main_v81 (F := Ideal) x0 x1 x2 x3 x4 x5 (ix3 b r n)
      = BitVec.ofNat 32 (count (tOf ((argsOf x0 x1 x2 x3 x4 x5).row b r) n.val)) := by
  have e : ∀ k : Fin 254, val_main_v80 (F := Ideal) x0 x1 x2 x3 x4 x5 (ix4 b r n k)
      = (FloatOps.cmpf (F := Ideal) (φ := .f32) .oge (tOf ((argsOf x0 x1 x2 x3 x4 x5).row b r) n.val) (thr k.val)).setWidth 32 := by
    intro k
    have e1 : idx_main_v75 (idx_main_v77 (ix4 b r n k)) = ix3 b r n := by
      funext a
      match a with
      | ⟨0, _⟩ => rfl
      | ⟨1, _⟩ => rfl
      | ⟨2, _⟩ => rfl
    have e2 : idx_main_v76 (idx_main_v78 (ix4 b r n k)) = ix1 k := by
      funext a
      match a with
      | ⟨0, _⟩ => rfl
    rw [val_main_v80_apply, val_main_v79_apply, val_main_v77_apply, val_main_v75_apply, val_main_v78_apply, val_main_v76_apply, e1, e2, v68_at, v74_at]
  unfold val_main_v81
  generalize val_main_v80 (F := Ideal) x0 x1 x2 x3 x4 x5 = y at e
  generalize tOf ((argsOf x0 x1 x2 x3 x4 x5).row b r) n.val = t at e
  rw [Host.reduce_eq_fold_single IntOp.addi y _ reducesTo_S6x256x224x254_S6x256x224_d3 (by decide) h_S_]
  refine (Finset.fold_congr (f := _) (g := fun k : Fin 254 => (FloatOps.cmpf (F := Ideal) (φ := .f32) .oge t (thr k.val)).setWidth 32) fun k _ => ?_).trans ?_
  · refine Eq.trans (congrArg y (funext fun a => Fin.ext ?_)) (e k)
    match a with
    | ⟨0, _⟩ => rfl
    | ⟨1, _⟩ => rfl
    | ⟨2, _⟩ => rfl
    | ⟨3, _⟩ => rfl
  · refine (IndicatorCount.fold_addi_setWidth_eq_card (fun k : Fin 254 => FloatOps.cmpf (F := Ideal) (φ := .f32) .oge t (thr k.val)) Finset.univ).trans ?_
    unfold LN.count
    refine congrArg (fun s : Finset (Fin 254) => BitVec.ofNat 32 s.card) ?_
    ext k
    simp only [Finset.mem_filter, Finset.mem_univ, true_and]
    classical
    show BitVec.ofBool (decide (thr k.val ≤ t)) = 1#1 ↔ _
    by_cases h : thr k.val ≤ t <;> simp [h]

/-- The exponent of a block. -/
theorem v86_at (b : Fin 6) (r : Fin 256) (n : Fin 224) (ht : tOf ((argsOf x0 x1 x2 x3 x4 x5).row b r) n.val < ⊤) :
    val_main_v86 (F := Ideal) x0 x1 x2 x3 x4 x5 (ix3 b r n) = expo (tOf ((argsOf x0 x1 x2 x3 x4 x5).row b r) n.val) := by
  rw [expo_eq _ ht, val_main_v86_apply, val_main_v83_apply, val_main_v85_apply, v81_at, v66_at, val_main_call0_v1_apply, val_main_call0_v0_apply, val_main_c_12_apply,
    val_main_v82_apply, val_main_c_10_apply, val_main_v84_apply, val_main_cst_11_apply]
  have h0 : FloatOps.ofBits (F := Ideal) .f32 0x00000000#32 = (0 : EReal) := by
    show Ideal.ofBits .f32 0x00000000#32 = 0
    simp
  rw [h0]
  have hz := mul_c448_eq_zero (amax fun k => (argsOf x0 x1 x2 x3 x4 x5).row b r (32 * n.val + k))
  change tOf _ _ = 0 ↔ _ at hz
  by_cases h : tOf ((argsOf x0 x1 x2 x3 x4 x5).row b r) n.val = 0
  · rw [if_pos h, hz.mp h]
    show Scalar.select (BitVec.ofBool (decide ((0 : EReal) = 0))) _ _ = _
    rw [decide_eq_true rfl]
    rfl
  · rw [if_neg h]
    show Scalar.select (BitVec.ofBool (decide ((amax fun k => (argsOf x0 x1 x2 x3 x4 x5).row b r (32 * n.val + k)) = 0))) _ _ = _
    rw [decide_eq_false fun hc => h (hz.mpr hc)]
    rfl

/-- The factor of a bounded block. -/
theorem v90_at (b : Fin 6) (r : Fin 256) (n : Fin 224) (ht : tOf ((argsOf x0 x1 x2 x3 x4 x5).row b r) n.val < thr 252) :
    val_main_v90 (F := Ideal) x0 x1 x2 x3 x4 x5 (ix3 b r n) = recip (expo (tOf ((argsOf x0 x1 x2 x3 x4 x5).row b r) n.val)) := by
  rw [← pow_recip _ ht, val_main_v90_apply, val_main_v89_apply, val_main_cst_13_apply, val_main_v88_apply, val_main_v87_apply, v86_at x0 x1 x2 x3 x4 x5 b r n (lt_of_lt_of_le ht le_top)]
  rfl

/-- The clipped quotient of an entry of a bounded block. -/
theorem v95_at (b : Fin 6) (r : Fin 256) (j : Fin 7168) (ht : ∀ n : Fin 224, tOf ((argsOf x0 x1 x2 x3 x4 x5).row b r) n.val < thr 252) :
    val_main_v95 (F := Ideal) x0 x1 x2 x3 x4 x5 (ix3 b r j) = (argsOf x0 x1 x2 x3 x4 x5).code b r j.val := by
  have hn : j.val / 32 < 224 := by omega
  have e1 : idx_main_v95 (ix3 b r j) = ix4 b r ⟨j.val / 32, hn⟩ ⟨j.val % 32, Nat.mod_lt _ (by norm_num)⟩ := by
    funext a
    refine Fin.ext ?_
    match a with
    | ⟨0, _⟩ => show ((b.val * 256 + r.val) * 7168 + j.val) / 1835008 = b.val; omega
    | ⟨1, _⟩ => show ((b.val * 256 + r.val) * 7168 + j.val) / 7168 % 256 = r.val; omega
    | ⟨2, _⟩ => show ((b.val * 256 + r.val) * 7168 + j.val) / 32 % 224 = j.val / 32; omega
    | ⟨3, _⟩ => show ((b.val * 256 + r.val) * 7168 + j.val) % 32 = j.val % 32; omega
  have e2 : ∀ k : Fin 32, idx_main_v91 (idx_main_v92 (ix4 b r ⟨j.val / 32, hn⟩ k)) = ix3 b r ⟨j.val / 32, hn⟩ := by
    intro k
    funext a
    match a with
    | ⟨0, _⟩ => rfl
    | ⟨1, _⟩ => rfl
    | ⟨2, _⟩ => rfl
  have e3 : 32 * (j.val / 32) + j.val % 32 = j.val := by omega
  rw [val_main_v95_apply, e1, val_main_v94_apply, val_main_call1_v4_apply, val_main_call1_v3_apply, val_main_cst_15_apply, val_main_call1_v2_apply,
    val_main_call1_v1_apply, val_main_call1_v0_apply, val_main_cst_14_apply, val_main_v93_apply, val_main_v92_apply, val_main_v91_apply, e2, v64_at, v90_at x0 x1 x2 x3 x4 x5 b r _ (ht _)]
  dsimp only
  rw [e3]
  rfl

/-- The biased exponent of a bounded block. -/
theorem v97_at (b : Fin 6) (r : Fin 256) (n : Fin 224) (ht : tOf ((argsOf x0 x1 x2 x3 x4 x5).row b r) n.val < thr 252) :
    val_main_v97 (F := Ideal) x0 x1 x2 x3 x4 x5 (ix3 b r n) = IntOp.addi (expo (tOf ((argsOf x0 x1 x2 x3 x4 x5).row b r) n.val)) 127#32 := by
  rw [val_main_v97_apply, v86_at x0 x1 x2 x3 x4 x5 b r n (lt_of_lt_of_le ht le_top), val_main_v96_apply, val_main_c_16_apply]

end Cert.ReferenceIdeal.Read
end
-- ==== Proof.RefBound.lean ====
module
public import proofs.«01_k».proof.Proof.RefQuant
public import proofs.«01_k».proof.Proof.Gen.Pre_bounded

/-! The precondition, entry by entry: every normalised entry is at most the largest f32 in absolute value. -/

@[expose] public section

noncomputable section
namespace Cert.ReferenceIdeal.Read
open Cert.ReferenceIdeal Cert.ReferenceIdeal.Gen Cert.LN
open Idealize.ShloMosaic Idealize.ShloMosaic.Tactic

variable (x0 : Vec Ideal S6x256x7168 .bf16) (x1 : Vec Ideal S2 .f32) (x2 x3 : Vec Ideal S2x6x256 .f32) (x4 x5 : Vec Ideal S7168 .f32)

set_option maxHeartbeats 4000000 in
/-- The precondition compares the absolute values of the reference's normalised rows with the largest f32. -/
theorem pre_eq : Cert.Pre_bounded.fn (F := Ideal) x0 x1 x2 x3 x4 x5
    = cmpf .ole (Host.absf (val_main_v63 (F := Ideal) x0 x1 x2 x3 x4 x5)) (broadcastInDim S6x256x7168 ![] Cert.Pre_bounded.Facts.bcast_S_S6x256x7168 (constant (F := Ideal) S_ .f32 0x7F7FFFFF#32)) := rfl

/-- Under the precondition every normalised entry is bounded. -/
theorem row_le (h : Cert.Pre_bounded.fn (F := Ideal) x0 x1 x2 x3 x4 x5 = fun _ => 1#1) (b : Fin 6) (r : Fin 256) (j : Fin 7168) :
    max ((argsOf x0 x1 x2 x3 x4 x5).row b r j.val) (-((argsOf x0 x1 x2 x3 x4 x5).row b r j.val)) ≤ top32 := by
  have e := congrFun ((pre_eq x0 x1 x2 x3 x4 x5).symm.trans h) (ix3 b r j)
  have e1 : BitVec.ofBool (decide (max (val_main_v63 (F := Ideal) x0 x1 x2 x3 x4 x5 (ix3 b r j)) (-(val_main_v63 (F := Ideal) x0 x1 x2 x3 x4 x5 (ix3 b r j))) ≤ top32)) = 1#1 := e
  rw [v63_at] at e1
  by_contra hc
  rw [decide_eq_false hc] at e1
  exact absurd e1 (by decide)

/-- So every block's threshold is below two to the power 126. -/
theorem thr_lt (h : Cert.Pre_bounded.fn (F := Ideal) x0 x1 x2 x3 x4 x5 = fun _ => 1#1) (b : Fin 6) (r : Fin 256) (n : Fin 224) :
    tOf ((argsOf x0 x1 x2 x3 x4 x5).row b r) n.val < thr 252 :=
  thr_of_le _ (amax_le _ fun k => row_le x0 x1 x2 x3 x4 x5 h b r ⟨32 * n.val + k.val, by omega⟩)

end Cert.ReferenceIdeal.Read
end
-- ==== Proof.RefFinal.lean ====
module
public import proofs.«01_k».proof.Proof.RefHost
public import proofs.«01_k».proof.Proof.RefBound
public import proofs.«01_k».proof.Proof.Gen.ReferenceIdeal.Value
public import Idealize.ShloMosaic.Lib.Pipeline.ValueKit.Geometry
public import Idealize.ShloMosaic.Lib.Pipeline.ValueKit.Point

/-! What the reference's four result arrays hold when it ends. -/

@[expose] public section
set_option maxRecDepth 16384

noncomputable section
namespace Cert.ReferenceIdeal.Read
open Cert.ReferenceIdeal Cert.ReferenceIdeal.Gen Cert.LN
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- The arguments of device `c`, by entries. -/
abbrev args (c : Dev nD) : Args :=
  argsOf (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- Every block's threshold is below two to the power 126. -/
def Small (a : Args) : Prop := ∀ (b : Fin 6) (r : Fin 256) (n : Fin 224), tOf (a.row b r) n.val < thr 252

/-- The block of the first input is the whole array. -/
theorem idx0 : ∀ t : Fin cfg0.N, win0_0.index t = ![0, 0, 0] := (by decide +kernel : ∀ t : Fin grid0.N, _)
/-- The block of the second input is the whole array. -/
theorem idx1 : ∀ t : Fin cfg0.N, win0_1.index t = ![0, 0, 0] := (by decide +kernel : ∀ t : Fin grid0.N, _)

/-- The one grid point. -/
def pt0 : Fin cfg0.N := ⟨0, by decide +kernel⟩

/-- The staged clipped quotients are the array that the host part left. -/
theorem iblk0 (c : Dev nD) (y : S6x256x7168.Idx) : (iblk m c 0 pt0 : Vec Ideal S6x256x7168 .f32) y = V m c main_v95 y := by
  unfold iblk
  rw [View.read_apply]
  show V m c main_v95 _ = V m c main_v95 _
  congr 1
  blk_ext [idx0 pt0]

/-- The staged biased exponents are the array that the host part left. -/
theorem iblk1 (c : Dev nD) (y : S6x256x224.Idx) : (iblk m c 1 pt0 : Vec Ideal S6x256x224 .i32) y = V m c main_v97 y := by
  unfold iblk
  rw [View.read_apply]
  show V m c main_v97 _ = V m c main_v97 _
  congr 1
  blk_ext [idx1 pt0]

/-- The codes. -/
def codes (a : Args) : Vec Ideal S6x256x7168 .fp8e4m3 := fun y => a.code (y 0) (y 1) (y 2).val
/-- The scale bytes. -/
def scales (a : Args) : Vec Ideal S6x256x224 .i8 := fun y => a.scale (y 0) (y 1) (y 2).val
/-- The means. -/
def means (a : Args) : Vec Ideal S6x256 .f32 := fun y => a.mean (y 0) (y 1)
/-- The reciprocal standard deviations. -/
def rstds (a : Args) : Vec Ideal S6x256 .f32 := fun y => a.rstd (y 0) (y 1)

/-- The body's first result, from its blocks. -/
theorem out2_at (x : Vec Ideal S6x256x7168 .f32) (x' : Vec Ideal S6x256x224 .i32) (y : S6x256x7168.Idx) : out0_2 x x' y = x y := by
  unfold out0_2
  refine (Cert.ReferenceIdeal.Value.canon2_eq _ y).trans ?_
  show (View.ld x r0_0) _ = _
  refine congrArg x (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- The body's second result, from its blocks. -/
theorem out3_at (x : Vec Ideal S6x256x7168 .f32) (x' : Vec Ideal S6x256x224 .i32) (y : S6x256x224.Idx) : out0_3 x x' y = (x' y).setWidth 8 := by
  unfold out0_3
  refine (Cert.ReferenceIdeal.Value.canon3_eq _ y).trans ?_
  refine congrArg (BitVec.setWidth 8) ?_
  show (View.ld x' r0_1) _ = _
  refine congrArg x' (funext fun a => Fin.ext ?_)
  match a with
  | ⟨0, _⟩ => show 0 + 1 * (y 0).val = (y 0).val; omega
  | ⟨1, _⟩ => show 0 + 1 * (y 1).val = (y 1).val; omega
  | ⟨2, _⟩ => show 0 + 1 * (y 2).val = (y 2).val; omega

/-- What the body stores first is the codes. -/
theorem codes_at (c : Dev nD) (hs : Small (args m c)) (y : S6x256x7168.Idx) :
    out0_2 (iblk m c 0 pt0) (iblk m c 1 pt0) y = codes (args m c) y := by
  refine (out2_at _ _ y).trans ((iblk0 m c y).trans ?_)
  refine (congrFun (V_main_v95 m c) y).trans ?_
  exact (congrArg _ (eq_ix3 y)).trans (v95_at _ _ _ _ _ _ (y 0) (y 1) (y 2) (hs (y 0) (y 1)))

/-- What the body stores second is the scale bytes. -/
theorem scales_at (c : Dev nD) (hs : Small (args m c)) (y : S6x256x224.Idx) :
    out0_3 (iblk m c 0 pt0) (iblk m c 1 pt0) y = scales (args m c) y := by
  refine (out3_at _ _ y).trans ((congrArg (BitVec.setWidth 8) ((iblk1 m c y).trans ?_)))
  refine (congrFun (V_main_v97 m c) y).trans ?_
  exact (congrArg _ (eq_ix3 y)).trans (v97_at _ _ _ _ _ _ (y 0) (y 1) (y 2) (hs (y 0) (y 1) (y 2)))

/-- The one point writes the whole array of codes. -/
theorem whole2 : (cfg0.win 2).WholeAt pt0 := by decide +kernel
/-- The one point writes the whole array of scale bytes. -/
theorem whole3 : (cfg0.win 3).WholeAt pt0 := by decide +kernel

/-- The codes' array at the end. -/
theorem final2 (c : Dev nD) (hs : Small (args m c)) : (dats m 0 c).arrAt 2 cfg0.N = codes (args m c) := by
  refine Dat.arrAt_eq_of_after_last (dats m 0 c) 2 pt0 whole2 (codes (args m c)) fun y => ?_
  exact (congrFun (after0_2 m c pt0) y).trans (codes_at m c hs y)

/-- The scale bytes' array at the end. -/
theorem final3 (c : Dev nD) (hs : Small (args m c)) : (dats m 0 c).arrAt 3 cfg0.N = scales (args m c) := by
  refine Dat.arrAt_eq_of_after_last (dats m 0 c) 3 pt0 whole3 (scales (args m c)) fun y => ?_
  exact (congrFun (after0_3 m c pt0) y).trans (scales_at m c hs y)

/-- The reference's run on bounded rows: each result array at its value, entry by entry, the arguments unchanged. -/
theorem run (hs : ∀ c, Small (args m c)) : θ_run defs (onTc (τ := τ) (main (F := Ideal))) ⟨m, fun _ => 0, ρ⟩ fun r => ∀ c : Dev nD,
      r.2.mem ((c.tc : Thread nD τ).loc main_v98_0) = codes (args m c)
      ∧ r.2.mem ((c.tc : Thread nD τ).loc main_v98_1) = scales (args m c)
      ∧ r.2.mem ((c.tc : Thread nD τ).loc main_v39) = means (args m c)
      ∧ r.2.mem ((c.tc : Thread nD τ).loc main_v51) = rstds (args m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (run_main m ρ)
  refine ⟨(Value.post2 m r h c).trans (final2 m c (hs c)), (Value.post3 m r h c).trans (final3 m c (hs c)),
    (((h c).2 main_v39 (Pipeline.mem_restRefs_of main_v39 (by decide) (by decide))).trans (V_main_v39 m c)).trans (funext fun y => ?_),
    (((h c).2 main_v51 (Pipeline.mem_restRefs_of main_v51 (by decide) (by decide))).trans (V_main_v51 m c)).trans (funext fun y => ?_),
    Value.kept_main_arg0 m r h c, Value.kept_main_arg1 m r h c, Value.kept_main_arg2 m r h c, Value.kept_main_arg3 m r h c,
    Value.kept_main_arg4 m r h c, Value.kept_main_arg5 m r h c⟩
  · exact (congrArg _ (eq_ix2 y)).trans (v39_at _ _ _ _ _ _ (y 0) (y 1))
  · exact (congrArg _ (eq_ix2 y)).trans (v51_at _ _ _ _ _ _ (y 0) (y 1))

end Cert.ReferenceIdeal.Read
end
-- ==== Proof.Equation.lean ====
module
public import proofs.«01_k».proof.Proof.KFinal
public import proofs.«01_k».proof.Proof.RefFinal
public import proofs.«01_k».proof.Defs

/-! The equation: on equal arguments, with every normalised entry bounded, the kernel's four result arrays and the reference's are equal. -/

@[expose] public section

noncomputable section
namespace Cert.Equation
open Idealize.ShloMosaic Idealize.SL.Sem

/-- The idealized kernel ends with its arguments unchanged and every counter at zero. -/
theorem frame : Cert.quiescent_KernelIdeal := fun m g _ =>
  (θ_run _ _ _).mono (fun r hr => ⟨fun c => (hr.1 c).2.2.2.2, hr.2⟩) (Cert.KernelIdeal.Hand.run m g)

/-- From equal arguments the two programs read the same entries. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) :
    Cert.ReferenceIdeal.Read.args m' c = Cert.KernelIdeal.Hand.argsOf m c := by
  obtain ⟨h0, h1, h2, h3, h4, h5⟩ := h
  unfold Cert.ReferenceIdeal.Read.args
  rw [h0, h1, h2, h3, h4, h5]
  rfl

/-- Under the precondition every block's threshold is small. -/
theorem small (m : (ℓ : Loc Cert.KernelIdeal.nD Cert.KernelIdeal.τ Cert.KernelIdeal.sig) → Buf (Elt Ideal) ℓ) (h : Cert.Pre_KernelIdeal_bounded m)
    (c : Dev Cert.KernelIdeal.nD) : Cert.ReferenceIdeal.Read.Small (Cert.KernelIdeal.Hand.argsOf m c) :=
  fun b r n => Cert.ReferenceIdeal.Read.thr_lt _ _ _ _ _ _ (h c) b r n

/-- The kernel and the reference end with equal results: both with the codes, the scale bytes, the means and the reciprocal standard
    deviations of the arguments' entries. -/
theorem algebraic : Cert.algebraic_KernelIdeal_ReferenceIdeal_pre_bounded := by
  intro m g m' g' hp ha
  refine ⟨fun c => Cert.KernelIdeal.Hand.codes (Cert.KernelIdeal.Hand.argsOf m c), fun c => Cert.KernelIdeal.Hand.scales (Cert.KernelIdeal.Hand.argsOf m c),
    fun c => Cert.KernelIdeal.Hand.means (Cert.KernelIdeal.Hand.argsOf m c), fun c => Cert.KernelIdeal.Hand.rstds (Cert.KernelIdeal.Hand.argsOf m c),
    (θ_run _ _ _).mono (fun r hr => hr.1) (Cert.KernelIdeal.Hand.run m g), ?_⟩
  have hs : ∀ c, Cert.ReferenceIdeal.Read.Small (Cert.ReferenceIdeal.Read.args m' c) := fun c => by
    rw [args_eq m m' c (ha c)]; exact small m hp c
  refine (θ_run _ _ _).mono (fun r hr c => ?_) (Cert.ReferenceIdeal.Read.run m' g' hs)
  obtain ⟨h0, h1, h2, h3, hk⟩ := hr c
  have e := args_eq m m' c (ha c)
  rw [e] at h0 h1 h2 h3
  exact ⟨h0, h1, h2, h3, hk⟩

end Cert.Equation
end
-- ==== Proof.KernelFrame.lean ====
module
public import proofs.«01_k».proof.Proof.Gen.Kernel.Frame
public import proofs.«01_k».proof.Proof.Gen.Kernel.Loops
public import proofs.«01_k».proof.Defs
public import Idealize.ShloMosaic.Lib.Claim
public import Idealize.ShloMosaic.Lib.Pipeline.DatRel
public import Idealize.ShloMosaic.Lib.Pipeline.ArrRel

/-! The kernel on machine numbers ends with its arguments unchanged and every semaphore counter at zero. Nothing is said of what its
    outputs hold. -/

@[expose] public section
set_option maxRecDepth 16384

noncomputable section
namespace Cert.Kernel.Hand
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Bits) ℕ (UR sig nD τ) ℕ

set_option maxHeartbeats 1000000 in
/-- The body's run: the inputs kept, the outputs and the scratch buffer left at some contents. -/
theorem kernelRun (c : Dev nD) (i : grid0.Coords) (arg1 : Memref sig .tc .smem S2 .f32) (harg1 : arg1.IsWhole) (arg2 : Memref sig .tc .vmem S1x256x7168 .bf16) (harg2 : arg2.IsWhole) (arg3 : Memref sig .tc .vmem S2x6x256 .f32) (harg3 : arg3.IsWhole) (arg4 : Memref sig .tc .vmem S2x6x256 .f32) (harg4 : arg4.IsWhole) (arg5 : Memref sig .tc .vmem S1x7168 .f32) (harg5 : arg5.IsWhole) (arg6 : Memref sig .tc .vmem S1x7168 .f32) (harg6 : arg6.IsWhole) (arg7 : Memref sig .tc .vmem S1x256x7168 .fp8e4m3) (harg7 : arg7.IsWhole) (arg8 : Memref sig .tc .vmem S1x256x224 .i8) (harg8 : arg8.IsWhole) (arg9 : Memref sig .tc .vmem S6x256 .f32) (harg9 : arg9.IsWhole) (arg10 : Memref sig .tc .vmem S6x256 .f32) (harg10 : arg10.IsWhole) (arg11 : Memref sig .tc .vmem S256x256 .i32) (harg11 : arg11.IsWhole)
    (x0 : Vec Bits S2 .f32) (x1 : Vec Bits S1x256x7168 .bf16) (x2 x3 : Vec Bits S2x6x256 .f32) (x4 x5 : Vec Bits S1x7168 .f32) :
    ∀ (E : Set ℕ) (K : PUnit → sProp 𝕄),
      iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := Bits)) Variants.none c none) E (cc0_tp_layernorm_fp8 (F := Bits) i arg1 harg1 arg2 harg2 arg3 harg3 arg4 harg4 arg5 harg5 arg6 harg6 arg7 harg7 arg8 harg8 arg9 harg9 arg10 harg10 arg11 harg11) K := by
    intro E K
    simp only [cc0_tp_layernorm_fp8_eq_skeleton]; unfold cc0_tp_layernorm_fp8_skel
    simp only [k0_part4_eq_skeleton, k0_part5_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, ⟨%ds0, %fs0, -, HS0⟩, Hk⟩
    obtain rfl := harg1.eq_unread hf0
    obtain rfl := harg2.eq_unread hf1
    obtain rfl := harg3.eq_unread hf2
    obtain rfl := harg4.eq_unread hf3
    obtain rfl := harg5.eq_unread hf4
    obtain rfl := harg6.eq_unread hf5
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _, _; isplitr; swap; · iexact H6
      ipureintro; rfl
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    iexists _, _; isplitr; swap; · iexact HS0
    ipureintro; rfl

variable (m : (ℓ : Loc nD τ sig) → Buf (Elt Bits) ℓ) (ρ : Dev nD → PrngReg)

/-! ## The outputs -/

/-- The four output windows. -/
def marked : Fin 10 → Bool := fun w => w.val == 6 || w.val == 7 || w.val == 8 || w.val == 9

/-- Nothing is claimed of what the body leaves there. -/
def Rl (w : Fin cfg0.W) (t : Fin cfg0.N) : ((cfg0.win w).block.Idx → Elt Bits (cfg0.win w).elt) → Prop := fun _ => True

/-! ## The pipeline's proof data -/

/-- The arrays as the region finds them; each input's buffer at its block. -/
def dats (c : Dev nD) : Dat τ (Elt Bits) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
  Φ _ := Pipeline.ΦA spec0 c
  q _ := fullShare
  owed _ := 0

/-- Each array as the region finds it. -/
theorem A_eq (c : Dev nD) (w : Fin cfg0.W) : (dats m c).A w = V m c (Pipeline.arrRef spec0 w) := by
  dsimp only [dats]

/-- Input 0 keeps its block. -/
theorem after0_0 (c : Dev nD) (t : Fin cfg0.N) : (dats m c).after 0 t = iblk m c 0 t := by dsimp only [dats]
/-- Input 1 keeps its block. -/
theorem after0_1 (c : Dev nD) (t : Fin cfg0.N) : (dats m c).after 1 t = iblk m c 1 t := by dsimp only [dats]
/-- Input 2 keeps its block. -/
theorem after0_2 (c : Dev nD) (t : Fin cfg0.N) : (dats m c).after 2 t = iblk m c 2 t := by dsimp only [dats]
/-- Input 3 keeps its block. -/
theorem after0_3 (c : Dev nD) (t : Fin cfg0.N) : (dats m c).after 3 t = iblk m c 3 t := by dsimp only [dats]
/-- Input 4 keeps its block. -/
theorem after0_4 (c : Dev nD) (t : Fin cfg0.N) : (dats m c).after 4 t = iblk m c 4 t := by dsimp only [dats]
/-- Input 5 keeps its block. -/
theorem after0_5 (c : Dev nD) (t : Fin cfg0.N) : (dats m c).after 5 t = iblk m c 5 t := by dsimp only [dats]

/-- Input 0 holds its block when the body starts. -/
theorem before0_0 (c : Dev nD) (t : Fin cfg0.N) (d) : (dats m c).before 0 t d = iblk m c 0 t :=
  before0_0_of m (dats m c) (A_eq m c 0) (after0_0 m c) t d
/-- Input 1 holds its block when the body starts. -/
theorem before0_1 (c : Dev nD) (t : Fin cfg0.N) (d) : (dats m c).before 1 t d = iblk m c 1 t :=
  before0_1_of m (dats m c) (A_eq m c 1) (after0_1 m c) t d
/-- Input 2 holds its block when the body starts. -/
theorem before0_2 (c : Dev nD) (t : Fin cfg0.N) (d) : (dats m c).before 2 t d = iblk m c 2 t :=
  before0_2_of m (dats m c) (A_eq m c 2) (after0_2 m c) t d
/-- Input 3 holds its block when the body starts. -/
theorem before0_3 (c : Dev nD) (t : Fin cfg0.N) (d) : (dats m c).before 3 t d = iblk m c 3 t :=
  before0_3_of m (dats m c) (A_eq m c 3) (after0_3 m c) t d
/-- Input 4 holds its block when the body starts. -/
theorem before0_4 (c : Dev nD) (t : Fin cfg0.N) (d) : (dats m c).before 4 t d = iblk m c 4 t :=
  before0_4_of m (dats m c) (A_eq m c 4) (after0_4 m c) t d
/-- Input 5 holds its block when the body starts. -/
theorem before0_5 (c : Dev nD) (t : Fin cfg0.N) (d) : (dats m c).before 5 t d = iblk m c 5 t :=
  before0_5_of m (dats m c) (A_eq m c 5) (after0_5 m c) t d

/-- The buffer that stages window 0 at a point. -/
abbrev ms0_0 (t : Fin cfg0.N) : Memref sig .tc .smem S2 .f32 := win0_0.stage (cfg0.slots t 0)
/-- The buffer that stages window 1 at a point. -/
abbrev ms0_1 (t : Fin cfg0.N) : Memref sig .tc .vmem S1x256x7168 .bf16 := win0_1.stage (cfg0.slots t 1)
/-- The buffer that stages window 2 at a point. -/
abbrev ms0_2 (t : Fin cfg0.N) : Memref sig .tc .vmem S2x6x256 .f32 := win0_2.stage (cfg0.slots t 2)
/-- The buffer that stages window 3 at a point. -/
abbrev ms0_3 (t : Fin cfg0.N) : Memref sig .tc .vmem S2x6x256 .f32 := win0_3.stage (cfg0.slots t 3)
/-- The buffer that stages window 4 at a point. -/
abbrev ms0_4 (t : Fin cfg0.N) : Memref sig .tc .vmem S1x7168 .f32 := win0_4.stage (cfg0.slots t 4)
/-- The buffer that stages window 5 at a point. -/
abbrev ms0_5 (t : Fin cfg0.N) : Memref sig .tc .vmem S1x7168 .f32 := win0_5.stage (cfg0.slots t 5)
/-- The buffer that stages window 6 at a point. -/
abbrev ms0_6 (t : Fin cfg0.N) : Memref sig .tc .vmem S1x256x7168 .fp8e4m3 := win0_6.stage (cfg0.slots t 6)
/-- The buffer that stages window 7 at a point. -/
abbrev ms0_7 (t : Fin cfg0.N) : Memref sig .tc .vmem S1x256x224 .i8 := win0_7.stage (cfg0.slots t 7)
/-- The buffer that stages window 8 at a point. -/
abbrev ms0_8 (t : Fin cfg0.N) : Memref sig .tc .vmem S6x256 .f32 := win0_8.stage (cfg0.slots t 8)
/-- The buffer that stages window 9 at a point. -/
abbrev ms0_9 (t : Fin cfg0.N) : Memref sig .tc .vmem S6x256 .f32 := win0_9.stage (cfg0.slots t 9)
/-- The scratch buffer of the blocks' exponents. -/
abbrev scM0_0 : Memref sig .tc .vmem S256x256 .i32 := Memref.whole cc0_scratch0

/-- What the body owns besides its windows: the scratch buffer and the register of the generator. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## The body obligation, at a generic point -/

/-- What the body is called with at point `t`. -/
def bodyPre (c : Dev nD) (t : Fin cfg0.N) : sProp 𝕄 :=
  iprop((dats m c).Φ t.castSucc ∗ (dats m c).owesAt () t.castSucc
    ∗ (∃ d, owns (c : Thread nD τ) (ms0_0 t) fullShare ((dats m c).before 0 t d))
    ∗ (∃ d, owns (c : Thread nD τ) (ms0_1 t) fullShare ((dats m c).before 1 t d))
    ∗ (∃ d, owns (c : Thread nD τ) (ms0_2 t) fullShare ((dats m c).before 2 t d))
    ∗ (∃ d, owns (c : Thread nD τ) (ms0_3 t) fullShare ((dats m c).before 3 t d))
    ∗ (∃ d, owns (c : Thread nD τ) (ms0_4 t) fullShare ((dats m c).before 4 t d))
    ∗ (∃ d, owns (c : Thread nD τ) (ms0_5 t) fullShare ((dats m c).before 5 t d))
    ∗ (∃ Y, ⌜((dats m c).toRRel marked (Rl)).Finds 6 t Y⌝ ∗ owns (c : Thread nD τ) (ms0_6 t) fullShare Y)
    ∗ (∃ Y, ⌜((dats m c).toRRel marked (Rl)).Finds 7 t Y⌝ ∗ owns (c : Thread nD τ) (ms0_7 t) fullShare Y)
    ∗ (∃ Y, ⌜((dats m c).toRRel marked (Rl)).Finds 8 t Y⌝ ∗ owns (c : Thread nD τ) (ms0_8 t) fullShare Y)
    ∗ (∃ Y, ⌜((dats m c).toRRel marked (Rl)).Finds 9 t Y⌝ ∗ owns (c : Thread nD τ) (ms0_9 t) fullShare Y))

/-- What it returns. -/
def bodyPost (c : Dev nD) (t : Fin cfg0.N) : sProp 𝕄 :=
  iprop((dats m c).Φ t.succ ∗ (dats m c).owesAt () t.succ
    ∗ owns (c : Thread nD τ) (ms0_0 t) fullShare ((dats m c).after 0 t)
    ∗ owns (c : Thread nD τ) (ms0_1 t) fullShare ((dats m c).after 1 t)
    ∗ owns (c : Thread nD τ) (ms0_2 t) fullShare ((dats m c).after 2 t)
    ∗ owns (c : Thread nD τ) (ms0_3 t) fullShare ((dats m c).after 3 t)
    ∗ owns (c : Thread nD τ) (ms0_4 t) fullShare ((dats m c).after 4 t)
    ∗ owns (c : Thread nD τ) (ms0_5 t) fullShare ((dats m c).after 5 t)
    ∗ (∃ X, ⌜Rl 6 t X⌝ ∗ owns (c : Thread nD τ) (ms0_6 t) fullShare X)
    ∗ (∃ X, ⌜Rl 7 t X⌝ ∗ owns (c : Thread nD τ) (ms0_7 t) fullShare X)
    ∗ (∃ X, ⌜Rl 8 t X⌝ ∗ owns (c : Thread nD τ) (ms0_8 t) fullShare X)
    ∗ (∃ X, ⌜Rl 9 t X⌝ ∗ owns (c : Thread nD τ) (ms0_9 t) fullShare X))

set_option maxHeartbeats 800000 in
/-- The body at any point. -/
theorem sound_body (c : Dev nD) (t : Fin cfg0.N) :
    bodyPre m c t ⊢ wp frame (wpE (defs₀ (F := Bits)) Variants.none c none) Set.univ (bodyAt0 (F := Bits) t) (fun _ => bodyPost m c t) := by
  unfold bodyPre bodyPost bodyAt0
  simp only [before0_0, before0_1, before0_2, before0_3, before0_4, before0_5]
  rw [show (dats m c).Φ t.succ = (dats m c).Φ t.castSucc from rfl,
    show (dats m c).owesAt () t.succ = (dats m c).owesAt () t.castSucc from rfl,
    after0_0, after0_1, after0_2, after0_3, after0_4, after0_5]
  rw [show (dats m c).Φ t.castSucc = Pipeline.ΦA spec0 c from rfl, PhiA0_eq]
  iintro ⟨⟨HS0, Hg⟩, Ho, ⟨%d0, H0⟩, ⟨%d1, H1⟩, ⟨%d2, H2⟩, ⟨%d3, H3⟩, ⟨%d4, H4⟩, ⟨%d5, H5⟩, ⟨%d6, -, H6⟩, ⟨%d7, -, H7⟩, ⟨%d8, -, H8⟩, ⟨%d9, -, H9⟩⟩
  iapply ((kernelRun c (grid0.coords t) _ _ _ _ _ _ _ _ _ _ _ _ _ _ _ _ _ _ _ _ _ _ (iblk m c 0 t) (iblk m c 1 t) (iblk m c 2 t) (iblk m c 3 t) (iblk m c 4 t) (iblk m c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  iintro ⟨H0, H1, H2, H3, H4, H5, ⟨%e6, H6⟩, ⟨%e7, H7⟩, ⟨%e8, H8⟩, ⟨%e9, H9⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · iexists _; isplitr; swap; · iexact H6
    ipureintro; exact trivial
  isplitl [H7]
  · iexists _; isplitr; swap; · iexact H7
    ipureintro; exact trivial
  isplitl [H8]
  · iexists _; isplitr; swap; · iexact H8
    ipureintro; exact trivial
  iexists _; isplitr; swap; · iexact H9
  ipureintro; exact trivial

/-- The body's procedure at a point is the kernel's body over the staged buffers. -/
theorem defs₀_row (t : Fin cfg0.N) :
    defs₀ (F := Bits) .tc cfg0.body (cfg0.bodyArgs t (cfg0.slots t)) = bodyAt0 t := by
  unfold defs₀; rw [Defs.onTc_tc]

/-- The body's triple restated as the pipeline asks for it. -/
theorem body_obligation (c : Dev nD) :
    Pipeline.BodyObligationRel (dats m c) (defs₀ (F := Bits)) Variants.none () Set.univ marked (Rl) := fun t => by
  rw [bigSep_W0, bigSep_W0, defs₀_row]
  exact triple_restated (sound_body m c t) rfl .rfl fun _ => .rfl

/-! ## The run -/

/-- The relational data of the run. -/
def rdat (c : Dev nD) : Pipeline.RDat τ (Elt Bits) Unit ℕ (UR sig nD τ) ℕ (cfgs 0) c := (dats m c).toRRel marked (Rl)

set_option backward.isDefEq.respectTransparency.types false in
/-- Every execution ends, in a state as `rdat` says and with every semaphore counter at zero. -/
theorem run_main : θ_run defs (onTc (τ := τ) (main (F := Bits))) (s₀ m ρ)
    (fun r => Pipeline.RDat.FramePost (cfgs 0) (rdat m) (V m) r ∧ r.2.sem = fun _ => 0) :=
  Pipeline.RDat.θ_run_frame (Q' := _) cfgs (0 : Fin 1) launch0 defs₀ Variants.none (rdat m) m ρ main
    (hbody := fun c => (body_obligation m c).toRRel) (hshare := fun c => (dats m c).share_full fun _ => rfl)
    (howed := fun _ _ => rfl) (V := V m) (hmain := hmain m Variants.none) (hA := A_eq m) (hΦ := fun _ _ => rfl)
    (hQ' := fun _ h => h)

set_option backward.isDefEq.respectTransparency.types false in
/-- The kernel ends with its arguments unchanged and every semaphore counter at zero. -/
theorem frame : Cert.quiescent_Kernel := fun m ρ _ => by
  refine (θ_run defs _ _).mono (fun r hr => ⟨fun c => ?_, hr.2⟩) (run_main m ρ)
  obtain ⟨h, -⟩ := hr
  exact ⟨(Pipeline.RDat.FramePost.arr_in h c 1 rfl).trans ((A_eq m c 1).trans (V_main_arg0 m c)),
    (Pipeline.RDat.FramePost.arr_in h c 0 rfl).trans ((A_eq m c 0).trans (V_main_arg1 m c)),
    (Pipeline.RDat.FramePost.arr_in h c 2 rfl).trans ((A_eq m c 2).trans (V_main_arg2 m c)),
    (Pipeline.RDat.FramePost.arr_in h c 3 rfl).trans ((A_eq m c 3).trans (V_main_arg3 m c)),
    ((h c).2 main_arg4 (Pipeline.mem_restRefs_of main_arg4 (by decide) (by decide))).trans (V_main_arg4 m c),
    ((h c).2 main_arg5 (Pipeline.mem_restRefs_of main_arg5 (by decide) (by decide))).trans (V_main_arg5 m c)⟩

end Cert.Kernel.Hand
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Pre_bounded
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equation
public import proofs.«01_k».proof.Proof.KernelFrame
public import Idealize.ShloMosaic.Adequacy
public import Idealize.ShloMosaic.Init

@[expose] public section

noncomputable section

namespace Cert.Proof

open Idealize.ShloMosaic Idealize.SL.Sem Cert.Kernel

/-- Every program ends with its arguments unchanged and every counter at zero; the idealized kernel is the kernel's own text; and on bounded
    rows the idealized kernel's four results are the reference's. -/
theorem claim : Cert.Claim := ⟨Cert.Kernel.Gen.facts, Cert.KernelIdeal.Gen.facts, Cert.ReferenceIdeal.Gen.facts, Cert.Pre_bounded.Gen.facts,
  Cert.Kernel.Hand.frame, Cert.Equation.frame, fun m ρ _ => Cert.Equation.frame m ρ trivial,
  fun m ρ _ => Cert.ReferenceIdeal.Gen.frame m ρ, fun m ρ _ => Cert.ReferenceIdeal.Gen.frame m ρ, trivial, Cert.Equation.algebraic⟩

end Cert.Proof

end
